-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1)
      ∧ r.2.mem ((c.tc : Thread Cert.QuantRefIdeal.nD Cert.QuantRefIdeal.τ).loc Cert.QuantRefIdeal.main_arg2) = m ((c.tc : Thread Cert.QuantRefIdeal.nD Cert.QuantRefIdeal.τ).loc Cert.QuantRefIdeal.main_arg2))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1)
      ∧ r.2.mem ((c.tc : Thread Cert.Dy.nD Cert.Dy.τ).loc Cert.Dy.main_arg2) = m ((c.tc : Thread Cert.Dy.nD Cert.Dy.τ).loc Cert.Dy.main_arg2)
      ∧ r.2.mem ((c.tc : Thread Cert.Dy.nD Cert.Dy.τ).loc Cert.Dy.main_arg3) = m ((c.tc : Thread Cert.Dy.nD Cert.Dy.τ).loc Cert.Dy.main_arg3))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
      ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
      ∧ r.2.mem ((c.tc : Thread Cert.DyIdeal.nD Cert.DyIdeal.τ).loc Cert.DyIdeal.main_arg3) = m ((c.tc : Thread Cert.DyIdeal.nD Cert.DyIdeal.τ).loc Cert.DyIdeal.main_arg3))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1)
      ∧ r.2.mem ((c.tc : Thread Cert.DyRefIdeal.nD Cert.DyRefIdeal.τ).loc Cert.DyRefIdeal.main_arg2) = m ((c.tc : Thread Cert.DyRefIdeal.nD Cert.DyRefIdeal.τ).loc Cert.DyRefIdeal.main_arg2)
      ∧ r.2.mem ((c.tc : Thread Cert.DyRefIdeal.nD Cert.DyRefIdeal.τ).loc Cert.DyRefIdeal.main_arg3) = m ((c.tc : Thread Cert.DyRefIdeal.nD Cert.DyRefIdeal.τ).loc Cert.DyRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Quant_QuantIdeal : Prop :=
  IdealRules.bf16_pair.BufferStatement Cert.QuantIdeal.S128x2x128 Cert.QuantIdeal.S128x1x128
  ∧ IdealRules.bf16_pair.Statement Cert.QuantIdeal.S128x128 Cert.QuantIdeal.S64x128
  ∧ IdealRules.bf16_pair.Statement Cert.QuantIdeal.S64x2x128 Cert.QuantIdeal.S64x1x128
  ∧ IdealRules.bf16_pair.Statement Cert.QuantIdeal.S8x2x128 Cert.QuantIdeal.S8x1x128
  ∧ IdealRules.bf16_pair.Statement Cert.QuantIdeal.S16x128 Cert.QuantIdeal.S8x128
  ∧ IdealRules.bf16_pair.PackStatement Cert.QuantIdeal.S8x128

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)
      ∧ m' ((c.tc : Thread Cert.QuantRefIdeal.nD Cert.QuantRefIdeal.τ).loc Cert.QuantRefIdeal.main_arg2) = m ((c.tc : Thread Cert.QuantIdeal.nD Cert.QuantIdeal.τ).loc Cert.QuantIdeal.main_arg2)) →
    ∃ (v0 : (c : Dev Cert.QuantIdeal.nD) → Buf (Elt Ideal) ((c.tc : Thread Cert.QuantIdeal.nD Cert.QuantIdeal.τ).loc Cert.QuantIdeal.main_v0_1)) (v1 : (c : Dev Cert.QuantIdeal.nD) → Buf (Elt Ideal) ((c.tc : Thread Cert.QuantIdeal.nD Cert.QuantIdeal.τ).loc Cert.QuantIdeal.main_v0_2)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_1) = v0 c
          ∧ r.2.mem ((c.tc : Thread Cert.QuantIdeal.nD Cert.QuantIdeal.τ).loc Cert.QuantIdeal.main_v0_2) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v31) = v0 c
          ∧ r.2.mem ((c.tc : Thread Cert.QuantRefIdeal.nD Cert.QuantRefIdeal.τ).loc Cert.QuantRefIdeal.main_v4) = v1 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1)
          ∧ r.2.mem ((c.tc : Thread Cert.QuantRefIdeal.nD Cert.QuantRefIdeal.τ).loc Cert.QuantRefIdeal.main_arg2) = m' ((c.tc : Thread Cert.QuantRefIdeal.nD Cert.QuantRefIdeal.τ).loc Cert.QuantRefIdeal.main_arg2))

def preserves_Dy_DyIdeal : Prop :=
  IdealRules.bf16_pair.BufferStatement Cert.DyIdeal.S128x2x128 Cert.DyIdeal.S128x1x128
  ∧ IdealRules.bf16_pair.Statement Cert.DyIdeal.S128x128 Cert.DyIdeal.S64x128
  ∧ IdealRules.bf16_pair.Statement Cert.DyIdeal.S64x2x128 Cert.DyIdeal.S64x1x128
  ∧ IdealRules.bf16_pair.Statement Cert.DyIdeal.S8x2x128 Cert.DyIdeal.S8x1x128
  ∧ IdealRules.bf16_pair.Statement Cert.DyIdeal.S16x128 Cert.DyIdeal.S8x128
  ∧ IdealRules.bf16_pair.PackStatement Cert.DyIdeal.S8x128

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)
      ∧ m' ((c.tc : Thread Cert.DyRefIdeal.nD Cert.DyRefIdeal.τ).loc Cert.DyRefIdeal.main_arg2) = m ((c.tc : Thread Cert.DyIdeal.nD Cert.DyIdeal.τ).loc Cert.DyIdeal.main_arg2)
      ∧ m' ((c.tc : Thread Cert.DyRefIdeal.nD Cert.DyRefIdeal.τ).loc Cert.DyRefIdeal.main_arg3) = m ((c.tc : Thread Cert.DyIdeal.nD Cert.DyIdeal.τ).loc Cert.DyIdeal.main_arg3)) →
    ∃ (v0 : (c : Dev Cert.DyIdeal.nD) → Buf (Elt Ideal) ((c.tc : Thread Cert.DyIdeal.nD Cert.DyIdeal.τ).loc Cert.DyIdeal.main_v0_1)) (v1 : (c : Dev Cert.DyIdeal.nD) → Buf (Elt Ideal) ((c.tc : Thread Cert.DyIdeal.nD Cert.DyIdeal.τ).loc Cert.DyIdeal.main_v0_2)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0_1) = v0 c
          ∧ r.2.mem ((c.tc : Thread Cert.DyIdeal.nD Cert.DyIdeal.τ).loc Cert.DyIdeal.main_v0_2) = v1 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
          ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
          ∧ r.2.mem ((c.tc : Thread Cert.DyIdeal.nD Cert.DyIdeal.τ).loc Cert.DyIdeal.main_arg3) = m ((c.tc : Thread Cert.DyIdeal.nD Cert.DyIdeal.τ).loc Cert.DyIdeal.main_arg3))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v31) = v0 c
          ∧ r.2.mem ((c.tc : Thread Cert.DyRefIdeal.nD Cert.DyRefIdeal.τ).loc Cert.DyRefIdeal.main_v4) = v1 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1)
          ∧ r.2.mem ((c.tc : Thread Cert.DyRefIdeal.nD Cert.DyRefIdeal.τ).loc Cert.DyRefIdeal.main_arg2) = m' ((c.tc : Thread Cert.DyRefIdeal.nD Cert.DyRefIdeal.τ).loc Cert.DyRefIdeal.main_arg2)
          ∧ r.2.mem ((c.tc : Thread Cert.DyRefIdeal.nD Cert.DyRefIdeal.τ).loc Cert.DyRefIdeal.main_arg3) = m' ((c.tc : Thread Cert.DyRefIdeal.nD Cert.DyRefIdeal.τ).loc Cert.DyRefIdeal.main_arg3))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantRefIdeal : Cert.QuantRefIdeal.Facts) (hDy : Cert.Dy.Facts) (hDyIdeal : Cert.DyIdeal.Facts) (hDyRefIdeal : Cert.DyRefIdeal.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantIdeal (hQuantIdeal := hQuantIdeal)
    ∧ quiescent_QuantRefIdeal (hQuantRefIdeal := hQuantRefIdeal)
    ∧ quiescent_Dy (hDy := hDy)
    ∧ quiescent_DyIdeal (hDyIdeal := hDyIdeal)
    ∧ quiescent_DyRefIdeal (hDyRefIdeal := hDyRefIdeal)
    ∧ preserves_Kernel_KernelIdeal
    ∧ algebraic_KernelIdeal_ReferenceIdeal (hKernelIdeal := hKernelIdeal) (hReferenceIdeal := hReferenceIdeal)
    ∧ preserves_Quant_QuantIdeal
    ∧ algebraic_QuantIdeal_QuantRefIdeal (hQuantIdeal := hQuantIdeal) (hQuantRefIdeal := hQuantRefIdeal)
    ∧ preserves_Dy_DyIdeal
    ∧ algebraic_DyIdeal_DyRefIdeal (hDyIdeal := hDyIdeal) (hDyRefIdeal := hDyRefIdeal)
-- ==== Kernel.lean ====
abbrev S16384x10240 : Shape := ⟨2, ![16384, 10240]⟩
abbrev S10240x6144 : Shape := ⟨2, ![10240, 6144]⟩
abbrev S1 : Shape := ⟨1, ![1]⟩
abbrev S16384x6144 : Shape := ⟨2, ![16384, 6144]⟩
abbrev S1024x10240 : Shape := ⟨2, ![1024, 10240]⟩
abbrev S10240x256 : Shape := ⟨2, ![10240, 256]⟩
abbrev S1024x256 : Shape := ⟨2, ![1024, 256]⟩

abbrev nBuf : Space → Nat
  | .hbm => 5
  | .vmem => 6
  | .smem => 2
  | _ => 0

abbrev bufTy : (tb : Table) → Fin (tcTables nBuf tb) → BufTy
  | .hbm, ⟨0, _⟩ => ⟨S16384x10240, .bf16⟩
  | .hbm, ⟨1, _⟩ => ⟨S10240x6144, .bf16⟩
  | .hbm, ⟨2, _⟩ => ⟨S1, .f32⟩
  | .hbm, ⟨3, _⟩ => ⟨S1, .f32⟩
  | .hbm, ⟨4, _⟩ => ⟨S16384x6144, .f32⟩
  | .local _ .vmem, ⟨0, _⟩ => ⟨S1024x10240, .bf16⟩
  | .local _ .vmem, ⟨1, _⟩ => ⟨S1024x10240, .bf16⟩
  | .local _ .vmem, ⟨2, _⟩ => ⟨S10240x256, .bf16⟩
  | .local _ .vmem, ⟨3, _⟩ => ⟨S10240x256, .bf16⟩
  | .local _ .vmem, ⟨4, _⟩ => ⟨S1024x256, .f32⟩
  | .local _ .vmem, ⟨5, _⟩ => ⟨S1024x256, .f32⟩
  | .local _ .smem, ⟨0, _⟩ => ⟨S1, .f32⟩
  | .local _ .smem, ⟨1, _⟩ => ⟨S1, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 24], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x10240 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S10240x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x10240 : Shape := ⟨2, ![16384, 10240]⟩
abbrev S10240x6144 : Shape := ⟨2, ![10240, 6144]⟩
abbrev S1 : Shape := ⟨1, ![1]⟩
abbrev S16384x6144 : Shape := ⟨2, ![16384, 6144]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S10240x6144, .bf16⟩
  | .hbm, ⟨2, _⟩ => ⟨S1, .f32⟩
  | .hbm, ⟨3, _⟩ => ⟨S1, .f32⟩
  | .hbm, ⟨4, _⟩ => ⟨S16384x6144, .f32⟩
  | .hbm, ⟨5, _⟩ => ⟨S1, .f32⟩
  | .hbm, ⟨6, _⟩ => ⟨S1x1, .f32⟩
  | .hbm, ⟨7, _⟩ => ⟨S16384x6144, .f32⟩
  | .hbm, ⟨8, _⟩ => ⟨S16384x6144, .f32⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Quant.lean ====
abbrev S10240x6144 : Shape := ⟨2, ![10240, 6144]⟩
abbrev S16 : Shape := ⟨1, ![16]⟩
abbrev S1 : Shape := ⟨1, ![1]⟩
abbrev S6144x5120 : Shape := ⟨2, ![6144, 5120]⟩
abbrev S6144x640 : Shape := ⟨2, ![6144, 640]⟩
abbrev S2048x128 : Shape := ⟨2, ![2048, 128]⟩
abbrev S256x1024 : Shape := ⟨2, ![256, 1024]⟩
abbrev S256x128 : Shape := ⟨2, ![256, 128]⟩
abbrev S2048x256 : Shape := ⟨2, ![2048, 256]⟩
abbrev S128x128 : Shape := ⟨2, ![128, 128]⟩
abbrev S64x128 : Shape := ⟨2, ![64, 128]⟩
abbrev S8x128 : Shape := ⟨2, ![8, 128]⟩
abbrev S16x128 : Shape := ⟨2, ![16, 128]⟩
abbrev S32x128 : Shape := ⟨2, ![32, 128]⟩
abbrev S8x128x1 : Shape := ⟨3, ![8, 128, 1]⟩

abbrev nBuf : Space → Nat
  | .hbm => 7
  | .vmem => 13
  | .smem => 3
  | _ => 0

abbrev bufTy : (tb : Table) → Fin (tcTables nBuf tb) → BufTy
  | .hbm, ⟨0, _⟩ => ⟨S10240x6144, .bf16⟩
  | .hbm, ⟨1, _⟩ => ⟨S16, .f32⟩
  | .hbm, ⟨2, _⟩ => ⟨S1, .f32⟩
  | .hbm, ⟨3, _⟩ => ⟨S6144x5120, .i8⟩
  | .hbm, ⟨4, _⟩ => ⟨S6144x640, .fp8e4m3⟩
  | .hbm, ⟨5, _⟩ => ⟨S1, .f32⟩
  | .hbm, ⟨6, _⟩ => ⟨S10240x6144, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S256x1024, .i8⟩
  | .local _ .vmem, ⟨5, _⟩ => ⟨S256x1024, .i8⟩
  | .local _ .vmem, ⟨6, _⟩ => ⟨S256x128, .fp8e4m3⟩
  | .local _ .vmem, ⟨7, _⟩ => ⟨S256x128, .fp8e4m3⟩
  | .local _ .vmem, ⟨8, _⟩ => ⟨S2048x256, .bf16⟩
  | .local _ .vmem, ⟨9, _⟩ => ⟨S2048x256, .bf16⟩
  | .local _ .vmem, ⟨10, _⟩ => ⟨S128x128, .f32⟩
  | .local _ .vmem, ⟨11, _⟩ => ⟨S128x128, .i32⟩
  | .local _ .vmem, ⟨12, _⟩ => ⟨S64x128, .i32⟩
  | .local _ .smem, ⟨0, _⟩ => ⟨S16, .f32⟩
  | .local _ .smem, ⟨1, _⟩ => ⟨S1, .f32⟩
  | .local _ .smem, ⟨2, _⟩ => ⟨S1, .f32⟩
  | _, _ => ⟨S10240x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [BitOps F]

abbrev grid0 : Pipeline.Grid := ⟨2, ![5, 24], ![false, false]⟩

@[reducible] def k0_t1_loop : Scf.Loop 32 :=
  let c0_i32 : BitVec 32 := 0#32
  let c8_i32 : BitVec 32 := 8#32
  let v50 : BitVec 32 := Scalar.addi c0_i32 c8_i32
  let c1_i32 : BitVec 32 := 1#32
  ⟨c0_i32, v50, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c2_i32 : BitVec 32 := 2#32
  let v60 : BitVec 32 := Scalar.muli arg13 c2_i32
  let c0_i32_34 : BitVec 32 := 0#32
  let v61 : BitVec 32 := Scalar.addi v60 c0_i32_34
  let c128_i32 : BitVec 32 := 128#32
  let v62 : BitVec 32 := Scalar.muli v61 c128_i32
  v62
def k0_off1 (k0_t1 : Fin k0_t1_loop.trips) (c0_i32_34 : BitVec 32) : Fin 2 → Nat :=
  let c0_i32 : BitVec 32 := 0#32
  let c1_i32 : BitVec 32 := 1#32
  let arg13 : BitVec 32 := Scf.iv c0_i32 c1_i32 k0_t1
  let c2_i32 : BitVec 32 := 2#32
  let v60 : BitVec 32 := Scalar.muli arg13 c2_i32
  let v61 : BitVec 32 := Scalar.addi v60 c0_i32_34
  let c128_i32 : BitVec 32 := 128#32
  let v62 : BitVec 32 := Scalar.muli v61 c128_i32
  let v63 : BitVec 32 := v62
  let v64 : Index := Scalar.indexCast v63
  let c0_35 : Index := 0#32
  ![v64.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c2_i32 : BitVec 32 := 2#32
  let v60 : BitVec 32 := Scalar.muli arg13 c2_i32
  let c0_i32_34 : BitVec 32 := 0#32
  let v61 : BitVec 32 := Scalar.addi v60 c0_i32_34
  let c8_i32_365 : BitVec 32 := 8#32
  let v1040 : BitVec 32 := Scalar.muli v61 c8_i32_365
  v1040
def k0_off2 (k0_t1 : Fin k0_t1_loop.trips) (c0_i32_34 : BitVec 32) : Fin 2 → Nat :=
  let c0_i32 : BitVec 32 := 0#32
  let c1_i32 : BitVec 32 := 1#32
  let arg13 : BitVec 32 := Scf.iv c0_i32 c1_i32 k0_t1
  let c2_i32 : BitVec 32 := 2#32
  let v60 : BitVec 32 := Scalar.muli arg13 c2_i32
  let v61 : BitVec 32 := Scalar.addi v60 c0_i32_34
  let c8_i32_365 : BitVec 32 := 8#32
  let v1040 : BitVec 32 := Scalar.muli v61 c8_i32_365
  let v1041 : BitVec 32 := v1040
  let v1042 : Index := Scalar.indexCast v1041
  let c0_366 : Index := 0#32
  ![v1042.toNat, 0]
def k0_off3 (k0_t1 : Fin k0_t1_loop.trips) (c0_i32_34 : BitVec 32) : Fin 2 → Nat :=
  let c0_i32 : BitVec 32 := 0#32
  let c1_i32 : BitVec 32 := 1#32
  let arg13 : BitVec 32 := Scf.iv c0_i32 c1_i32 k0_t1
  let c2_i32 : BitVec 32 := 2#32
  let v60 : BitVec 32 := Scalar.muli arg13 c2_i32
  let v61 : BitVec 32 := Scalar.addi v60 c0_i32_34
  let c128_i32 : BitVec 32 := 128#32
  let v62 : BitVec 32 := Scalar.muli v61 c128_i32
  let v63 : BitVec 32 := v62
  let v1047 : Index := Scalar.indexCast v63
  let c0_367 : Index := 0#32
  ![v1047.toNat, 0]
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c2_i32_368 : BitVec 32 := 2#32
  let v1049 : BitVec 32 := Scalar.muli arg13 c2_i32_368
  let c1_i32_369 : BitVec 32 := 1#32
  let v1050 : BitVec 32 := Scalar.addi v1049 c1_i32_369
  let c128_i32_370 : BitVec 32 := 128#32
  let v1051 : BitVec 32 := Scalar.muli v1050 c128_i32_370
  v1051
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c2_i32_368 : BitVec 32 := 2#32
  let v1049 : BitVec 32 := Scalar.muli arg13 c2_i32_368
  let c1_i32_369 : BitVec 32 := 1#32
  let v1050 : BitVec 32 := Scalar.addi v1049 c1_i32_369
  let c8_i32_699 : BitVec 32 := 8#32
  let v2029 : BitVec 32 := Scalar.muli v1050 c8_i32_699
  v2029
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32_710 : BitVec 32 := 128#32
  let v2080 : BitVec 32 := Scalar.muli arg13 c128_i32_710
  v2080
def k0_off4 (k0_t1 : Fin k0_t1_loop.trips) : Fin 2 → Nat :=
  let c0_711 : Index := 0#32
  let c0_i32 : BitVec 32 := 0#32
  let c1_i32 : BitVec 32 := 1#32
  let arg13 : BitVec 32 := Scf.iv c0_i32 c1_i32 k0_t1
  let c128_i32_710 : BitVec 32 := 128#32
  let v2080 : BitVec 32 := Scalar.muli arg13 c128_i32_710
  let v2081 : BitVec 32 := v2080
  let v2082 : Index := Scalar.indexCast v2081
  ![0, v2082.toNat]
@[reducible] def k0_t2_loop : Scf.Loop 32 :=
  let c0_i32_27 : BitVec 32 := 0#32
  let c8_i32_28 : BitVec 32 := 8#32
  let v55 : BitVec 32 := Scalar.addi c0_i32_27 c8_i32_28
  let c1_i32_29 : BitVec 32 := 1#32
  ⟨c0_i32_27, v55, c1_i32_29⟩
def k0_mult6 (k0_t2 : Fin k0_t2_loop.trips) : BitVec 32 :=
  let c0_i32_27 : BitVec 32 := 0#32
  let c1_i32_29 : BitVec 32 := 1#32
  let arg13 : BitVec 32 := Scf.iv c0_i32_27 c1_i32_29 k0_t2
  let c2_i32 : BitVec 32 := 2#32
  let v60 : BitVec 32 := Scalar.muli arg13 c2_i32
  let c0_i32_34 : BitVec 32 := 0#32
  let v61 : BitVec 32 := Scalar.addi v60 c0_i32_34
  let c128_i32 : BitVec 32 := 128#32
  let v62 : BitVec 32 := Scalar.muli v61 c128_i32
  v62
def k0_off5 (k0_t2 : Fin k0_t2_loop.trips) (c0_i32_34 : BitVec 32) : Fin 2 → Nat :=
  let c0_i32_27 : BitVec 32 := 0#32
  let c1_i32_29 : BitVec 32 := 1#32
  let arg13 : BitVec 32 := Scf.iv c0_i32_27 c1_i32_29 k0_t2
  let c2_i32 : BitVec 32 := 2#32
  let v60 : BitVec 32 := Scalar.muli arg13 c2_i32
  let v61 : BitVec 32 := Scalar.addi v60 c0_i32_34
  let c128_i32 : BitVec 32 := 128#32
  let v62 : BitVec 32 := Scalar.muli v61 c128_i32
  let v63 : BitVec 32 := v62
  let v64 : Index := Scalar.indexCast v63
  let c0_35 : Index := 0#32
  ![v64.toNat, 0]
def k0_mult7 (k0_t2 : Fin k0_t2_loop.trips) : BitVec 32 :=
  let c0_i32_27 : BitVec 32 := 0#32
  let c1_i32_29 : BitVec 32 := 1#32
  let arg13 : BitVec 32 := Scf.iv c0_i32_27 c1_i32_29 k0_t2
  let c2_i32 : BitVec 32 := 2#32
  let v60 : BitVec 32 := Scalar.muli arg13 c2_i32
  let c0_i32_34 : BitVec 32 := 0#32
  let v61 : BitVec 32 := Scalar.addi v60 c0_i32_34
  let c8_i32_365 : BitVec 32 := 8#32
  let v1040 : BitVec 32 := Scalar.muli v61 c8_i32_365
  v1040
def k0_off6 (k0_t2 : Fin k0_t2_loop.trips) (c0_i32_34 : BitVec 32) : Fin 2 → Nat :=
  let c0_i32_27 : BitVec 32 := 0#32
  let c1_i32_29 : BitVec 32 := 1#32
  let arg13 : BitVec 32 := Scf.iv c0_i32_27 c1_i32_29 k0_t2
  let c2_i32 : BitVec 32 := 2#32
  let v60 : BitVec 32 := Scalar.muli arg13 c2_i32
  let v61 : BitVec 32 := Scalar.addi v60 c0_i32_34
  let c8_i32_365 : BitVec 32 := 8#32
  let v1040 : BitVec 32 := Scalar.muli v61 c8_i32_365
  let v1041 : BitVec 32 := v1040
  let v1042 : Index := Scalar.indexCast v1041
  let c0_366 : Index := 0#32
  ![v1042.toNat, 0]
def k0_off7 (k0_t2 : Fin k0_t2_loop.trips) (c0_i32_34 : BitVec 32) : Fin 2 → Nat :=
  let c0_i32_27 : BitVec 32 := 0#32
  let c1_i32_29 : BitVec 32 := 1#32
  let arg13 : BitVec 32 := Scf.iv c0_i32_27 c1_i32_29 k0_t2
  let c2_i32 : BitVec 32 := 2#32
  let v60 : BitVec 32 := Scalar.muli arg13 c2_i32
  let v61 : BitVec 32 := Scalar.addi v60 c0_i32_34
  let c128_i32 : BitVec 32 := 128#32
  let v62 : BitVec 32 := Scalar.muli v61 c128_i32
  let v63 : BitVec 32 := v62
  let v1047 : Index := Scalar.indexCast v63
  let c128_367 : Index := 128#32
  ![v1047.toNat, 128]
def k0_mult8 (k0_t2 : Fin k0_t2_loop.trips) : BitVec 32 :=
  let c0_i32_27 : BitVec 32 := 0#32
  let c1_i32_29 : BitVec 32 := 1#32
  let arg13 : BitVec 32 := Scf.iv c0_i32_27 c1_i32_29 k0_t2
  let c2_i32_368 : BitVec 32 := 2#32
  let v1049 : BitVec 32 := Scalar.muli arg13 c2_i32_368
  let c1_i32_369 : BitVec 32 := 1#32
  let v1050 : BitVec 32 := Scalar.addi v1049 c1_i32_369
  let c128_i32_370 : BitVec 32 := 128#32
  let v1051 : BitVec 32 := Scalar.muli v1050 c128_i32_370
  v1051
def k0_mult9 (k0_t2 : Fin k0_t2_loop.trips) : BitVec 32 :=
  let c0_i32_27 : BitVec 32 := 0#32
  let c1_i32_29 : BitVec 32 := 1#32
  let arg13 : BitVec 32 := Scf.iv c0_i32_27 c1_i32_29 k0_t2
  let c2_i32_368 : BitVec 32 := 2#32
  let v1049 : BitVec 32 := Scalar.muli arg13 c2_i32_368
  let c1_i32_369 : BitVec 32 := 1#32
  let v1050 : BitVec 32 := Scalar.addi v1049 c1_i32_369
  let c8_i32_699 : BitVec 32 := 8#32
  let v2029 : BitVec 32 := Scalar.muli v1050 c8_i32_699
  v2029
def k0_mult10 (k0_t2 : Fin k0_t2_loop.trips) : BitVec 32 :=
  let c0_i32_27 : BitVec 32 := 0#32
  let c1_i32_29 : BitVec 32 := 1#32
  let arg13 : BitVec 32 := Scf.iv c0_i32_27 c1_i32_29 k0_t2
  let c128_i32_710 : BitVec 32 := 128#32
  let v2080 : BitVec 32 := Scalar.muli arg13 c128_i32_710
  v2080
def k0_off8 (k0_t2 : Fin k0_t2_loop.trips) : Fin 2 → Nat :=
  let c128_711 : Index := 128#32
  let c0_i32_27 : BitVec 32 := 0#32
  let c1_i32_29 : BitVec 32 := 1#32
  let arg13 : BitVec 32 := Scf.iv c0_i32_27 c1_i32_29 k0_t2
  let c128_i32_710 : BitVec 32 := 128#32
  let v2080 : BitVec 32 := Scalar.muli arg13 c128_i32_710
  let v2081 : BitVec 32 := v2080
  let v2082 : Index := Scalar.indexCast v2081
  ![128, v2082.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QuantIdeal.lean ====
abbrev S128x2x128 : Shape := ⟨3, ![128, 2, 128]⟩
abbrev S128x1x128 : Shape := ⟨3, ![128, 1, 128]⟩
abbrev S64x2x128 : Shape := ⟨3, ![64, 2, 128]⟩
abbrev S64x1x128 : Shape := ⟨3, ![64, 1, 128]⟩
abbrev S8x2x128 : Shape := ⟨3, ![8, 2, 128]⟩
abbrev S8x1x128 : Shape := ⟨3, ![8, 1, 128]⟩
  | .local _ .vmem, ⟨11, _⟩ => ⟨S128x2x128, .bf16⟩
variable {F : FTy → Type} [FloatOps F]
-- ==== QuantRefIdeal.lean ====
abbrev S10240x6144 : Shape := ⟨2, ![10240, 6144]⟩
abbrev S16 : Shape := ⟨1, ![16]⟩
abbrev S1 : Shape := ⟨1, ![1]⟩
abbrev S_ : Shape := ⟨0, ![]⟩
abbrev S16x1 : Shape := ⟨2, ![16, 1]⟩
abbrev S1x16 : Shape := ⟨2, ![1, 16]⟩
abbrev S16x16 : Shape := ⟨2, ![16, 16]⟩
abbrev S640x16x6144 : Shape := ⟨3, ![640, 16, 6144]⟩
abbrev S640x6144x16 : Shape := ⟨3, ![640, 6144, 16]⟩
abbrev S640x6144 : Shape := ⟨2, ![640, 6144]⟩
abbrev S6144x640 : Shape := ⟨2, ![6144, 640]⟩

abbrev nBuf : Space → Nat
  | .hbm => 45
  | .vmem => 2
  | .smem => 1
  | _ => 0

abbrev bufTy : (tb : Table) → Fin (tcTables nBuf tb) → BufTy
  | .hbm, ⟨0, _⟩ => ⟨S10240x6144, .bf16⟩
  | .hbm, ⟨1, _⟩ => ⟨S16, .f32⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S1, .i1⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S16, .i32⟩
  | .hbm, ⟨14, _⟩ => ⟨S16x1, .i32⟩
  | .hbm, ⟨15, _⟩ => ⟨S1x16, .i32⟩
  | .hbm, ⟨16, _⟩ => ⟨S16x16, .i32⟩
  | .hbm, ⟨17, _⟩ => ⟨S16x16, .i32⟩
  | .hbm, ⟨18, _⟩ => ⟨S16x16, .i32⟩
  | .hbm, ⟨19, _⟩ => ⟨S16x16, .i32⟩
  | .hbm, ⟨20, _⟩ => ⟨S_, .i32⟩
  | .hbm, ⟨21, _⟩ => ⟨S16x16, .i32⟩
  | .hbm, ⟨22, _⟩ => ⟨S16x16, .i32⟩
  | .hbm, ⟨23, _⟩ => ⟨S_, .i32⟩
  | .hbm, ⟨24, _⟩ => ⟨S16x16, .i32⟩
  | .hbm, ⟨25, _⟩ => ⟨S16x16, .i32⟩
  | .hbm, ⟨26, _⟩ => ⟨S_, .i32⟩
  | .hbm, ⟨27, _⟩ => ⟨S16x16, .i32⟩
  | .hbm, ⟨28, _⟩ => ⟨S16x16, .i32⟩
  | .hbm, ⟨29, _⟩ => ⟨S16x16, .f32⟩
  | .hbm, ⟨30, _⟩ => ⟨S1x16, .f32⟩
  | .hbm, ⟨31, _⟩ => ⟨S16x16, .f32⟩
  | .hbm, ⟨32, _⟩ => ⟨S16x16, .f32⟩
  | .hbm, ⟨33, _⟩ => ⟨S_, .f32⟩
  | .hbm, ⟨34, _⟩ => ⟨S16x16, .f32⟩
  | .hbm, ⟨35, _⟩ => ⟨S16x16, .f32⟩
  | .hbm, ⟨36, _⟩ => ⟨S10240x6144, .f32⟩
  | .hbm, ⟨37, _⟩ => ⟨S640x16x6144, .f32⟩
  | .hbm, ⟨38, _⟩ => ⟨S640x6144x16, .f32⟩
  | .hbm, ⟨39, _⟩ => ⟨S640x16x6144, .f32⟩
  | .hbm, ⟨40, _⟩ => ⟨S640x16x6144, .f32⟩
  | .hbm, ⟨41, _⟩ => ⟨S_, .f32⟩
  | .hbm, ⟨42, _⟩ => ⟨S640x6144, .f32⟩
  | .hbm, ⟨43, _⟩ => ⟨S6144x640, .f32⟩
  | .hbm, ⟨44, _⟩ => ⟨S6144x640, .fp8e4m3⟩
  | .local _ .vmem, ⟨0, _⟩ => ⟨S6144x640, .f32⟩
  | .local _ .vmem, ⟨1, _⟩ => ⟨S6144x640, .fp8e4m3⟩
  | .local _ .smem, ⟨0, _⟩ => ⟨S1, .f32⟩
  | _, _ => ⟨S10240x6144, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6144x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Dy.lean ====
abbrev S10240x16384 : Shape := ⟨2, ![10240, 16384]⟩
abbrev S16 : Shape := ⟨1, ![16]⟩
abbrev S1 : Shape := ⟨1, ![1]⟩
abbrev S16384x5120 : Shape := ⟨2, ![16384, 5120]⟩
abbrev S16384x640 : Shape := ⟨2, ![16384, 640]⟩
abbrev S16384x10240 : Shape := ⟨2, ![16384, 10240]⟩
abbrev S2048x128 : Shape := ⟨2, ![2048, 128]⟩
abbrev S256x1024 : Shape := ⟨2, ![256, 1024]⟩
abbrev S256x128 : Shape := ⟨2, ![256, 128]⟩
abbrev S256x2048 : Shape := ⟨2, ![256, 2048]⟩
abbrev S128x128 : Shape := ⟨2, ![128, 128]⟩
abbrev S64x128 : Shape := ⟨2, ![64, 128]⟩
abbrev S8x128 : Shape := ⟨2, ![8, 128]⟩
abbrev S32x128 : Shape := ⟨2, ![32, 128]⟩
abbrev S16x128 : Shape := ⟨2, ![16, 128]⟩
abbrev S8x128x1 : Shape := ⟨3, ![8, 128, 1]⟩

abbrev nBuf : Space → Nat
  | .hbm => 8
  | .vmem => 17
  | .smem => 3
  | _ => 0

abbrev bufTy : (tb : Table) → Fin (tcTables nBuf tb) → BufTy
  | .hbm, ⟨0, _⟩ => ⟨S10240x16384, .bf16⟩
  | .hbm, ⟨1, _⟩ => ⟨S10240x16384, .i8⟩
  | .hbm, ⟨2, _⟩ => ⟨S16, .f32⟩
  | .hbm, ⟨3, _⟩ => ⟨S1, .f32⟩
  | .hbm, ⟨4, _⟩ => ⟨S16384x5120, .i8⟩
  | .hbm, ⟨5, _⟩ => ⟨S16384x640, .fp8e4m3⟩
  | .hbm, ⟨6, _⟩ => ⟨S1, .f32⟩
  | .hbm, ⟨7, _⟩ => ⟨S16384x10240, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .i8⟩
  | .local _ .vmem, ⟨5, _⟩ => ⟨S2048x128, .i8⟩
  | .local _ .vmem, ⟨6, _⟩ => ⟨S2048x128, .i8⟩
  | .local _ .vmem, ⟨7, _⟩ => ⟨S2048x128, .i8⟩
  | .local _ .vmem, ⟨8, _⟩ => ⟨S256x1024, .i8⟩
  | .local _ .vmem, ⟨9, _⟩ => ⟨S256x1024, .i8⟩
  | .local _ .vmem, ⟨10, _⟩ => ⟨S256x128, .fp8e4m3⟩
  | .local _ .vmem, ⟨11, _⟩ => ⟨S256x128, .fp8e4m3⟩
  | .local _ .vmem, ⟨12, _⟩ => ⟨S256x2048, .bf16⟩
  | .local _ .vmem, ⟨13, _⟩ => ⟨S256x2048, .bf16⟩
  | .local _ .vmem, ⟨14, _⟩ => ⟨S128x128, .f32⟩
  | .local _ .vmem, ⟨15, _⟩ => ⟨S128x128, .i32⟩
  | .local _ .vmem, ⟨16, _⟩ => ⟨S64x128, .i32⟩
  | .local _ .smem, ⟨0, _⟩ => ⟨S16, .f32⟩
  | .local _ .smem, ⟨1, _⟩ => ⟨S1, .f32⟩
  | .local _ .smem, ⟨2, _⟩ => ⟨S1, .f32⟩
  | _, _ => ⟨S10240x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_stg1_0 : Ref sig .tc := ⟨.smem, 1, rfl⟩
abbrev cc0_stg8_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨2, ![5, 64], ![false, false]⟩

@[reducible] def k0_t1_loop : Scf.Loop 32 :=
  let c0_i32 : BitVec 32 := 0#32
  let c8_i32 : BitVec 32 := 8#32
  let v50 : BitVec 32 := Scalar.addi c0_i32 c8_i32
  let c1_i32 : BitVec 32 := 1#32
  ⟨c0_i32, v50, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c2_i32 : BitVec 32 := 2#32
  let v60 : BitVec 32 := Scalar.muli arg15 c2_i32
  let c0_i32_34 : BitVec 32 := 0#32
  let v61 : BitVec 32 := Scalar.addi v60 c0_i32_34
  let c128_i32 : BitVec 32 := 128#32
  let v62 : BitVec 32 := Scalar.muli v61 c128_i32
  v62
def k0_off1 (k0_t1 : Fin k0_t1_loop.trips) (c0_i32_34 : BitVec 32) : Fin 2 → Nat :=
  let c0_i32 : BitVec 32 := 0#32
  let c1_i32 : BitVec 32 := 1#32
  let arg15 : BitVec 32 := Scf.iv c0_i32 c1_i32 k0_t1
  let c2_i32 : BitVec 32 := 2#32
  let v60 : BitVec 32 := Scalar.muli arg15 c2_i32
  let v61 : BitVec 32 := Scalar.addi v60 c0_i32_34
  let c128_i32 : BitVec 32 := 128#32
  let v62 : BitVec 32 := Scalar.muli v61 c128_i32
  let v63 : BitVec 32 := v62
  let v64 : Index := Scalar.indexCast v63
  let c0_35 : Index := 0#32
  ![v64.toNat, 0]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c2_i32 : BitVec 32 := 2#32
  let v60 : BitVec 32 := Scalar.muli arg15 c2_i32
  let c0_i32_34 : BitVec 32 := 0#32
  let v61 : BitVec 32 := Scalar.addi v60 c0_i32_34
  let c8_i32_468 : BitVec 32 := 8#32
  let v1306 : BitVec 32 := Scalar.muli v61 c8_i32_468
  v1306
def k0_off2 (k0_t1 : Fin k0_t1_loop.trips) (c0_i32_34 : BitVec 32) : Fin 2 → Nat :=
  let c0_i32 : BitVec 32 := 0#32
  let c1_i32 : BitVec 32 := 1#32
  let arg15 : BitVec 32 := Scf.iv c0_i32 c1_i32 k0_t1
  let c2_i32 : BitVec 32 := 2#32
  let v60 : BitVec 32 := Scalar.muli arg15 c2_i32
  let v61 : BitVec 32 := Scalar.addi v60 c0_i32_34
  let c8_i32_468 : BitVec 32 := 8#32
  let v1306 : BitVec 32 := Scalar.muli v61 c8_i32_468
  let v1307 : BitVec 32 := v1306
  let v1308 : Index := Scalar.indexCast v1307
  let c0_469 : Index := 0#32
  ![v1308.toNat, 0]
def k0_off3 (k0_t1 : Fin k0_t1_loop.trips) (c0_i32_34 : BitVec 32) : Fin 2 → Nat :=
  let c0_470 : Index := 0#32
  let c0_i32 : BitVec 32 := 0#32
  let c1_i32 : BitVec 32 := 1#32
  let arg15 : BitVec 32 := Scf.iv c0_i32 c1_i32 k0_t1
  let c2_i32 : BitVec 32 := 2#32
  let v60 : BitVec 32 := Scalar.muli arg15 c2_i32
  let v61 : BitVec 32 := Scalar.addi v60 c0_i32_34
  let c128_i32 : BitVec 32 := 128#32
  let v62 : BitVec 32 := Scalar.muli v61 c128_i32
  let v63 : BitVec 32 := v62
  let v1314 : Index := Scalar.indexCast v63
  ![0, v1314.toNat]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c2_i32_471 : BitVec 32 := 2#32
  let v1316 : BitVec 32 := Scalar.muli arg15 c2_i32_471
  let c1_i32_472 : BitVec 32 := 1#32
  let v1317 : BitVec 32 := Scalar.addi v1316 c1_i32_472
  let c128_i32_473 : BitVec 32 := 128#32
  let v1318 : BitVec 32 := Scalar.muli v1317 c128_i32_473
  v1318
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c2_i32_471 : BitVec 32 := 2#32
  let v1316 : BitVec 32 := Scalar.muli arg15 c2_i32_471
  let c1_i32_472 : BitVec 32 := 1#32
  let v1317 : BitVec 32 := Scalar.addi v1316 c1_i32_472
  let c8_i32_905 : BitVec 32 := 8#32
  let v2562 : BitVec 32 := Scalar.muli v1317 c8_i32_905
  v2562
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32_916 : BitVec 32 := 128#32
  let v2614 : BitVec 32 := Scalar.muli arg15 c128_i32_916
  v2614
def k0_off4 (k0_t1 : Fin k0_t1_loop.trips) : Fin 2 → Nat :=
  let c0_917 : Index := 0#32
  let c0_i32 : BitVec 32 := 0#32
  let c1_i32 : BitVec 32 := 1#32
  let arg15 : BitVec 32 := Scf.iv c0_i32 c1_i32 k0_t1
  let c128_i32_916 : BitVec 32 := 128#32
  let v2614 : BitVec 32 := Scalar.muli arg15 c128_i32_916
  let v2615 : BitVec 32 := v2614
  let v2616 : Index := Scalar.indexCast v2615
  ![0, v2616.toNat]
@[reducible] def k0_t2_loop : Scf.Loop 32 :=
  let c0_i32_27 : BitVec 32 := 0#32
  let c8_i32_28 : BitVec 32 := 8#32
  let v55 : BitVec 32 := Scalar.addi c0_i32_27 c8_i32_28
  let c1_i32_29 : BitVec 32 := 1#32
  ⟨c0_i32_27, v55, c1_i32_29⟩
def k0_mult6 (k0_t2 : Fin k0_t2_loop.trips) : BitVec 32 :=
  let c0_i32_27 : BitVec 32 := 0#32
  let c1_i32_29 : BitVec 32 := 1#32
  let arg15 : BitVec 32 := Scf.iv c0_i32_27 c1_i32_29 k0_t2
  let c2_i32 : BitVec 32 := 2#32
  let v60 : BitVec 32 := Scalar.muli arg15 c2_i32
  let c0_i32_34 : BitVec 32 := 0#32
  let v61 : BitVec 32 := Scalar.addi v60 c0_i32_34
  let c128_i32 : BitVec 32 := 128#32
  let v62 : BitVec 32 := Scalar.muli v61 c128_i32
  v62
def k0_off5 (k0_t2 : Fin k0_t2_loop.trips) (c0_i32_34 : BitVec 32) : Fin 2 → Nat :=
  let c0_i32_27 : BitVec 32 := 0#32
  let c1_i32_29 : BitVec 32 := 1#32
  let arg15 : BitVec 32 := Scf.iv c0_i32_27 c1_i32_29 k0_t2
  let c2_i32 : BitVec 32 := 2#32
  let v60 : BitVec 32 := Scalar.muli arg15 c2_i32
  let v61 : BitVec 32 := Scalar.addi v60 c0_i32_34
  let c128_i32 : BitVec 32 := 128#32
  let v62 : BitVec 32 := Scalar.muli v61 c128_i32
  let v63 : BitVec 32 := v62
  let v64 : Index := Scalar.indexCast v63
  let c0_35 : Index := 0#32
  ![v64.toNat, 0]
def k0_mult7 (k0_t2 : Fin k0_t2_loop.trips) : BitVec 32 :=
  let c0_i32_27 : BitVec 32 := 0#32
  let c1_i32_29 : BitVec 32 := 1#32
  let arg15 : BitVec 32 := Scf.iv c0_i32_27 c1_i32_29 k0_t2
  let c2_i32 : BitVec 32 := 2#32
  let v60 : BitVec 32 := Scalar.muli arg15 c2_i32
  let c0_i32_34 : BitVec 32 := 0#32
  let v61 : BitVec 32 := Scalar.addi v60 c0_i32_34
  let c8_i32_468 : BitVec 32 := 8#32
  let v1306 : BitVec 32 := Scalar.muli v61 c8_i32_468
  v1306
def k0_off6 (k0_t2 : Fin k0_t2_loop.trips) (c0_i32_34 : BitVec 32) : Fin 2 → Nat :=
  let c0_i32_27 : BitVec 32 := 0#32
  let c1_i32_29 : BitVec 32 := 1#32
  let arg15 : BitVec 32 := Scf.iv c0_i32_27 c1_i32_29 k0_t2
  let c2_i32 : BitVec 32 := 2#32
  let v60 : BitVec 32 := Scalar.muli arg15 c2_i32
  let v61 : BitVec 32 := Scalar.addi v60 c0_i32_34
  let c8_i32_468 : BitVec 32 := 8#32
  let v1306 : BitVec 32 := Scalar.muli v61 c8_i32_468
  let v1307 : BitVec 32 := v1306
  let v1308 : Index := Scalar.indexCast v1307
  let c0_469 : Index := 0#32
  ![v1308.toNat, 0]
def k0_off7 (k0_t2 : Fin k0_t2_loop.trips) (c0_i32_34 : BitVec 32) : Fin 2 → Nat :=
  let c128_470 : Index := 128#32
  let c0_i32_27 : BitVec 32 := 0#32
  let c1_i32_29 : BitVec 32 := 1#32
  let arg15 : BitVec 32 := Scf.iv c0_i32_27 c1_i32_29 k0_t2
  let c2_i32 : BitVec 32 := 2#32
  let v60 : BitVec 32 := Scalar.muli arg15 c2_i32
  let v61 : BitVec 32 := Scalar.addi v60 c0_i32_34
  let c128_i32 : BitVec 32 := 128#32
  let v62 : BitVec 32 := Scalar.muli v61 c128_i32
  let v63 : BitVec 32 := v62
  let v1314 : Index := Scalar.indexCast v63
  ![128, v1314.toNat]
def k0_mult8 (k0_t2 : Fin k0_t2_loop.trips) : BitVec 32 :=
  let c0_i32_27 : BitVec 32 := 0#32
  let c1_i32_29 : BitVec 32 := 1#32
  let arg15 : BitVec 32 := Scf.iv c0_i32_27 c1_i32_29 k0_t2
  let c2_i32_471 : BitVec 32 := 2#32
  let v1316 : BitVec 32 := Scalar.muli arg15 c2_i32_471
  let c1_i32_472 : BitVec 32 := 1#32
  let v1317 : BitVec 32 := Scalar.addi v1316 c1_i32_472
  let c128_i32_473 : BitVec 32 := 128#32
  let v1318 : BitVec 32 := Scalar.muli v1317 c128_i32_473
  v1318
def k0_mult9 (k0_t2 : Fin k0_t2_loop.trips) : BitVec 32 :=
  let c0_i32_27 : BitVec 32 := 0#32
  let c1_i32_29 : BitVec 32 := 1#32
  let arg15 : BitVec 32 := Scf.iv c0_i32_27 c1_i32_29 k0_t2
  let c2_i32_471 : BitVec 32 := 2#32
  let v1316 : BitVec 32 := Scalar.muli arg15 c2_i32_471
  let c1_i32_472 : BitVec 32 := 1#32
  let v1317 : BitVec 32 := Scalar.addi v1316 c1_i32_472
  let c8_i32_905 : BitVec 32 := 8#32
  let v2562 : BitVec 32 := Scalar.muli v1317 c8_i32_905
  v2562
def k0_mult10 (k0_t2 : Fin k0_t2_loop.trips) : BitVec 32 :=
  let c0_i32_27 : BitVec 32 := 0#32
  let c1_i32_29 : BitVec 32 := 1#32
  let arg15 : BitVec 32 := Scf.iv c0_i32_27 c1_i32_29 k0_t2
  let c128_i32_916 : BitVec 32 := 128#32
  let v2614 : BitVec 32 := Scalar.muli arg15 c128_i32_916
  v2614
def k0_off8 (k0_t2 : Fin k0_t2_loop.trips) : Fin 2 → Nat :=
  let c128_917 : Index := 128#32
  let c0_i32_27 : BitVec 32 := 0#32
  let c1_i32_29 : BitVec 32 := 1#32
  let arg15 : BitVec 32 := Scf.iv c0_i32_27 c1_i32_29 k0_t2
  let c128_i32_916 : BitVec 32 := 128#32
  let v2614 : BitVec 32 := Scalar.muli arg15 c128_i32_916
  let v2615 : BitVec 32 := v2614
  let v2616 : Index := Scalar.indexCast v2615
  ![128, v2616.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DyIdeal.lean ====
abbrev S128x2x128 : Shape := ⟨3, ![128, 2, 128]⟩
abbrev S128x1x128 : Shape := ⟨3, ![128, 1, 128]⟩
abbrev S64x2x128 : Shape := ⟨3, ![64, 2, 128]⟩
abbrev S64x1x128 : Shape := ⟨3, ![64, 1, 128]⟩
abbrev S8x2x128 : Shape := ⟨3, ![8, 2, 128]⟩
abbrev S8x1x128 : Shape := ⟨3, ![8, 1, 128]⟩
  | .local _ .vmem, ⟨15, _⟩ => ⟨S128x2x128, .bf16⟩
variable {F : FTy → Type} [FloatOps F]
-- ==== DyRefIdeal.lean ====
abbrev S10240x16384 : Shape := ⟨2, ![10240, 16384]⟩
abbrev S16 : Shape := ⟨1, ![16]⟩
abbrev S1 : Shape := ⟨1, ![1]⟩
abbrev S_ : Shape := ⟨0, ![]⟩
abbrev S16x1 : Shape := ⟨2, ![16, 1]⟩
abbrev S1x16 : Shape := ⟨2, ![1, 16]⟩
abbrev S16x16 : Shape := ⟨2, ![16, 16]⟩
abbrev S640x16x16384 : Shape := ⟨3, ![640, 16, 16384]⟩
abbrev S640x16384x16 : Shape := ⟨3, ![640, 16384, 16]⟩
abbrev S640x16384 : Shape := ⟨2, ![640, 16384]⟩
abbrev S16384x640 : Shape := ⟨2, ![16384, 640]⟩

abbrev nBuf : Space → Nat
  | .hbm => 46
  | .vmem => 2
  | .smem => 1
  | _ => 0

abbrev bufTy : (tb : Table) → Fin (tcTables nBuf tb) → BufTy
  | .hbm, ⟨0, _⟩ => ⟨S10240x16384, .bf16⟩
  | .hbm, ⟨1, _⟩ => ⟨S10240x16384, .i8⟩
  | .hbm, ⟨2, _⟩ => ⟨S16, .f32⟩
  | .hbm, ⟨3, _⟩ => ⟨S1, .f32⟩
  | .hbm, ⟨4, _⟩ => ⟨S_, .f32⟩
  | .hbm, ⟨5, _⟩ => ⟨S1, .f32⟩
  | .hbm, ⟨6, _⟩ => ⟨S1, .i1⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S16, .i32⟩
  | .hbm, ⟨15, _⟩ => ⟨S16x1, .i32⟩
  | .hbm, ⟨16, _⟩ => ⟨S1x16, .i32⟩
  | .hbm, ⟨17, _⟩ => ⟨S16x16, .i32⟩
  | .hbm, ⟨18, _⟩ => ⟨S16x16, .i32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S_, .i32⟩
  | .hbm, ⟨25, _⟩ => ⟨S16x16, .i32⟩
  | .hbm, ⟨26, _⟩ => ⟨S16x16, .i32⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S16x16, .f32⟩
  | .hbm, ⟨31, _⟩ => ⟨S1x16, .f32⟩
  | .hbm, ⟨32, _⟩ => ⟨S16x16, .f32⟩
  | .hbm, ⟨33, _⟩ => ⟨S16x16, .f32⟩
  | .hbm, ⟨34, _⟩ => ⟨S_, .f32⟩
  | .hbm, ⟨35, _⟩ => ⟨S16x16, .f32⟩
  | .hbm, ⟨36, _⟩ => ⟨S16x16, .f32⟩
  | .hbm, ⟨37, _⟩ => ⟨S10240x16384, .f32⟩
  | .hbm, ⟨38, _⟩ => ⟨S640x16x16384, .f32⟩
  | .hbm, ⟨39, _⟩ => ⟨S640x16384x16, .f32⟩
  | .hbm, ⟨40, _⟩ => ⟨S640x16x16384, .f32⟩
  | .hbm, ⟨41, _⟩ => ⟨S640x16x16384, .f32⟩
  | .hbm, ⟨42, _⟩ => ⟨S_, .f32⟩
  | .hbm, ⟨43, _⟩ => ⟨S640x16384, .f32⟩
  | .hbm, ⟨44, _⟩ => ⟨S16384x640, .f32⟩
  | .hbm, ⟨45, _⟩ => ⟨S16384x640, .fp8e4m3⟩
  | .local _ .vmem, ⟨0, _⟩ => ⟨S16384x640, .f32⟩
  | .local _ .vmem, ⟨1, _⟩ => ⟨S16384x640, .fp8e4m3⟩
  | .local _ .smem, ⟨0, _⟩ => ⟨S1, .f32⟩
  | _, _ => ⟨S10240x16384, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16384x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Product.lean ====
/-
  What the tiled weight-gradient product leaves in its result array, over the extended reals: the array that the
  whole-array reference computes, `(dy_vals · x_vals) · (dy_st · x_st)`.
-/
module

public import proofs.«01_k».proof.Proof.Gen.KernelIdeal.Value
public import proofs.«01_k».proof.Proof.Gen.ReferenceIdeal.Run
public import Idealize.ShloMosaic.Lib.MatmulPlain
public import Idealize.ShloMosaic.Lib.ValueIdx

@[expose] public section

set_option maxRecDepth 16384

noncomputable section

namespace Cert.KernelIdeal.Product

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-- The reference's composed term of the four argument arrays: one whole-array product, scaled. -/
def refTerm (A : FVec Ideal S16384x10240 .bf16) (B : FVec Ideal S10240x6144 .bf16) (sx sdy : FVec Ideal S1 .f32) :
    FVec Ideal S16384x6144 .f32 :=
  mulf (Host.dotGeneral (F := Ideal) (φ₁ := .bf16) (φ₂ := .bf16) Cert.ReferenceIdeal.dot_S16384x10240_S10240x6144_S16384x6144_1_0_0_1_n_n none A B)
    (broadcastInDim S16384x6144 ![0, 1] Cert.ReferenceIdeal.Facts₀.bcast_S1x1_S16384x6144_0_1
      (broadcastInDim Cert.ReferenceIdeal.S1x1 ![1] Cert.ReferenceIdeal.Facts₀.bcast_S1_S1x1_1 (mulf sdy sx)))

/-- The reference's array at row `r`, column `c`: the sum over the tokens of the products, times both scales. -/
theorem refTerm_apply (A : FVec Ideal S16384x10240 .bf16) (B : FVec Ideal S10240x6144 .bf16) (sx sdy : FVec Ideal S1 .f32)
    (r : Fin 16384) (c : Fin 6144) :
    refTerm A B sx sdy (ix2 r c)
      = (∑ k : Fin 10240, A (ix2 r k) * B (ix2 k c) : EReal) * (sdy (ix1 0) * sx (ix1 0)) := by
  have h := Ideal.matmul_plain_apply (M := 16384) (K := 10240) (N := 6144) none A B (fun _ => (0 : EReal)) r c
  rw [zero_add] at h
  have hb : ∀ x y : FVec Ideal S16384x6144 .f32, mulf x y (ix2 r c) = (x (ix2 r c) : EReal) * y (ix2 r c) := fun _ _ => rfl
  unfold refTerm
  rw [hb]
  refine congrArg₂ (fun a b : EReal => a * b) ?_ ?_
  · exact h
  · show (sdy _ : EReal) * sx _ = _
    congr 1
    · congr 1; funext a; apply Fin.ext; match a with | ⟨0, _⟩ => rfl
    · congr 1; funext a; apply Fin.ext; match a with | ⟨0, _⟩ => rfl

/-- The pair of zeros is the zero offset. -/
theorem hz2 : (![0, 0] : Fin 2 → Nat) = fun _ => 0 := funext fun a => by fin_cases a <;> rfl
/-- The single zero is the zero offset. -/
theorem hz1 : (![0] : Fin 1 → Nat) = fun _ => 0 := funext fun a => by fin_cases a; rfl

/-- A one-element array has one index. -/
theorem S1_idx_eq (i j : S1.Idx) : i = j := by
  funext a; apply Fin.ext
  match a with
  | ⟨0, h⟩ =>
    have hi : (i ⟨0, h⟩ : Nat) < 1 := (i ⟨0, h⟩).isLt
    have hj : (j ⟨0, h⟩ : Nat) < 1 := (j ⟨0, h⟩).isLt
    omega

/-- The tile that one grid point computes, at row `r`, column `c`. -/
theorem pay_apply (A : FVec Ideal S1024x10240 .bf16) (B : FVec Ideal S10240x256 .bf16) (s3 s4 : EReal)
    (r : Fin 1024) (c : Fin 256) :
    k0_pay1 (F := Ideal) A B s3 s4 (ix2 r c) = (∑ k : Fin 10240, A (ix2 r k) * B (ix2 k c) : EReal) * (s3 * s4) := by
  have h := Ideal.matmul_plain_apply (M := 1024) (K := 10240) (N := 256) none A B
    (constant (F := Ideal) S1024x256 .f32 0x00000000#32) r c
  have h0 : (constant (F := Ideal) S1024x256 .f32 0x00000000#32) (ix2 r c) = (0 : EReal) := by
    show Ideal.ofBits .f32 0x00000000#32 = 0
    simp [Ideal.ofBits, Ideal.ieee]
  rw [h0, zero_add] at h
  exact congrArg (fun a : EReal => a * (s3 * s4)) h

variable (m : (ℓ : Loc nD τ sig) → Buf (Elt Ideal) ℓ) (ρ : Dev nD → PrngReg)

/-- The array that the kernel is shown to leave in its result. -/
abbrev G (c : Dev nD) : Buf (Elt Ideal) ((c : Thread nD τ).loc main_v0) :=
  refTerm (m ((c : Thread nD τ).loc main_arg0)) (m ((c : Thread nD τ).loc main_arg1))
    (m ((c : Thread nD τ).loc main_arg2)) (m ((c : Thread nD τ).loc main_arg3))

/-- Where each window's block begins at grid point `t`. -/
theorem idx_facts : ∀ t : Fin cfg0.N, win0_2.index t 0 * win0_2.size 0 = t.val / 24 * 1024 ∧ win0_2.index t 1 * win0_2.size 1 = 0
    ∧ win0_3.index t 0 * win0_3.size 0 = 0 ∧ win0_3.index t 1 * win0_3.size 1 = t.val % 24 * 256
    ∧ win0_4.index t 0 * win0_4.size 0 = t.val / 24 * 1024 ∧ win0_4.index t 1 * win0_4.size 1 = t.val % 24 * 256 :=
  (by decide +kernel : ∀ t : Fin grid0.N, _)

/-- Grid point `t`'s tile of the result is that tile of the reference's array. -/
theorem flushed_eq (c : Dev nD) (t : Fin cfg0.N) :
    (dats m 0 c).flushed 4 t = (win0_4.blk t).view.read (Elt Ideal) (G m c) := by
  obtain ⟨e20, e21, e30, e31, e40, e41⟩ := idx_facts t
  have ht : t.val < 384 := lt_of_lt_of_eq t.isLt N_0
  rw [Value.flushed4_A]
  unfold out0_A_4
  rw [View.read_writes_eq_canon _ _ _ (cover0_A_4 c _ _ _ _ _ _ _ _ _ _ _ _ _ _ _)]
  unfold kernelRun0_A
  dsimp only
  sl_unfold_words
  rw [View.canon_unit_zero hz2]
  simp only [View.readAt_eq_ld, Memref.IsWhole.read_unread]
  rw [View.ld_unit_zero (S := S1024x10240) hz2, View.ld_unit_zero (S := S10240x256) hz2, View.ld_unit_zero (S := S1) hz1,
    View.ld_unit_zero (S := S1) hz1]
  funext j
  obtain ⟨r, q, rfl⟩ : ∃ (r : Fin 1024) (q : Fin 256), j = ix2 r q := ⟨j 0, j 1, eq_ix2 j⟩
  have hr : t.val / 24 * 1024 + r.val < 16384 := by omega
  have hq : t.val % 24 * 256 + q.val < 6144 := by omega
  have e2 : ∀ k : Fin 10240, iblk m c 2 t (ix2 r k)
      = m ((c : Thread nD τ).loc main_arg0) (ix2 ⟨t.val / 24 * 1024 + r.val, hr⟩ k) := fun k => by
    refine congrArg (m ((c : Thread nD τ).loc main_arg0)) ?_
    funext a; apply Fin.ext
    match a with
    | ⟨0, _⟩ => show win0_2.index t 0 * win0_2.size 0 + 1 * r.val = t.val / 24 * 1024 + r.val
                rw [e20, Nat.one_mul]
    | ⟨1, _⟩ => show win0_2.index t 1 * win0_2.size 1 + 1 * k.val = k.val
                rw [e21, Nat.one_mul, Nat.zero_add]
  have e3 : ∀ k : Fin 10240, iblk m c 3 t (ix2 k q)
      = m ((c : Thread nD τ).loc main_arg1) (ix2 k ⟨t.val % 24 * 256 + q.val, hq⟩) := fun k => by
    refine congrArg (m ((c : Thread nD τ).loc main_arg1)) ?_
    funext a; apply Fin.ext
    match a with
    | ⟨0, _⟩ => show win0_3.index t 0 * win0_3.size 0 + 1 * k.val = k.val
                rw [e30, Nat.one_mul, Nat.zero_add]
    | ⟨1, _⟩ => show win0_3.index t 1 * win0_3.size 1 + 1 * q.val = t.val % 24 * 256 + q.val
                rw [e31, Nat.one_mul]
  have e0 : ∀ i : S1.Idx, iblk m c 0 t i = m ((c : Thread nD τ).loc main_arg2) (ix1 0) := fun i =>
    congrArg (m ((c : Thread nD τ).loc main_arg2)) (S1_idx_eq _ _)
  have e1 : ∀ i : S1.Idx, iblk m c 1 t i = m ((c : Thread nD τ).loc main_arg3) (ix1 0) := fun i =>
    congrArg (m ((c : Thread nD τ).loc main_arg3)) (S1_idx_eq _ _)
  have er : ((View.whole main_v0).slice (win0_4.rect t)).emb (ix2 r q)
      = ix2 ⟨t.val / 24 * 1024 + r.val, hr⟩ ⟨t.val % 24 * 256 + q.val, hq⟩ := by
    funext a; apply Fin.ext
    match a with
    | ⟨0, _⟩ => show win0_4.index t 0 * win0_4.size 0 + 1 * r.val = t.val / 24 * 1024 + r.val
                rw [e40, Nat.one_mul]
    | ⟨1, _⟩ => show win0_4.index t 1 * win0_4.size 1 + 1 * q.val = t.val % 24 * 256 + q.val
                rw [e41, Nat.one_mul]
  have hR : View.read (Elt Ideal) ((View.whole main_v0).slice (win0_4.rect t)) (G m c) (ix2 r q)
      = G m c (ix2 ⟨t.val / 24 * 1024 + r.val, hr⟩ ⟨t.val % 24 * 256 + q.val, hq⟩) := congrArg (G m c) er
  refine Eq.trans ?_ hR.symm
  refine (pay_apply _ _ _ _ r q).trans ((?_ : _ = _).trans (refTerm_apply _ _ _ _ _ _).symm)
  rw [e0, e1]
  refine congrArg (fun x : EReal => x * _) (Finset.sum_congr rfl fun k _ => ?_)
  rw [e2, e3]

/-- An index of the result is in grid point `t`'s tile when its row and its column are. -/
theorem mem_blk (t : Fin cfg0.N) (i : S16384x6144.Idx) :
    i ∈ ((cfg0.win 4).blk t).view.set ↔ (t.val / 24 * 1024 ≤ (i 0 : Nat) ∧ (i 0 : Nat) < t.val / 24 * 1024 + 1024)
      ∧ (t.val % 24 * 256 ≤ (i 1 : Nat) ∧ (i 1 : Nat) < t.val % 24 * 256 + 256) := by
  show i ∈ ((View.whole main_v0).slice (win0_4.rect t)).set ↔ _
  rw [View.set_slice_whole, Rect.mem_set_unit]
  obtain ⟨-, -, -, -, e40, e41⟩ := idx_facts t
  refine ⟨fun h => ⟨?_, ?_⟩, fun h a => ?_⟩
  · have : win0_4.index t 0 * win0_4.size 0 ≤ (i 0 : Nat) ∧ (i 0 : Nat) < win0_4.index t 0 * win0_4.size 0 + 1024 := h 0
    rwa [e40] at this
  · have : win0_4.index t 1 * win0_4.size 1 ≤ (i 1 : Nat) ∧ (i 1 : Nat) < win0_4.index t 1 * win0_4.size 1 + 256 := h 1
    rwa [e41] at this
  · match a with
    | ⟨0, _⟩ => show win0_4.index t 0 * win0_4.size 0 ≤ (i 0 : Nat) ∧ (i 0 : Nat) < win0_4.index t 0 * win0_4.size 0 + 1024
                rw [e40]; exact h.1
    | ⟨1, _⟩ => show win0_4.index t 1 * win0_4.size 1 ≤ (i 1 : Nat) ∧ (i 1 : Nat) < win0_4.index t 1 * win0_4.size 1 + 256
                rw [e41]; exact h.2

/-- The tiles cover the result. -/
theorem cover (i : S16384x6144.Idx) :
    ∃ t : Fin cfg0.N, (cfg0.win 4).flush t = true ∧ i ∈ ((cfg0.win 4).blk t).view.set := by
  have h0 : (i 0 : Nat) < 16384 := (i 0).isLt
  have h1 : (i 1 : Nat) < 6144 := (i 1).isLt
  have ht : (i 0 : Nat) / 1024 * 24 + (i 1 : Nat) / 256 < cfg0.N := by
    show _ < grid0.N
    rw [N_0]; omega
  refine ⟨⟨_, ht⟩, flush0_4 _, ?_⟩
  rw [mem_blk]
  dsimp only
  omega

/-- After the run the result is the reference's array. -/
theorem final (c : Dev nD) : (dats m 0 c).arrAt 4 cfg0.N = G m c :=
  (dats m 0 c).arrAt_eq_of_cover 4 (G m c) (fun t _ => flushed_eq m c t) cover

end Cert.KernelIdeal.Product

end
-- ==== Proof.QuantRun.lean ====
/-
  Hand-written, untrusted. One run of the body of `Quant`'s call: the reads of the signs and of the maximum, the two
  loops over the units of a channel plane (by the generated loop invariants), and the two stores of the block scales.
-/
module

public import proofs.«01_k».proof.Proof.Gen.Quant.Frame
public import proofs.«01_k».proof.Proof.Gen.Quant.Loops
public import proofs.«01_k».proof.Proof.Gen.Quant.Skeleton
public import Idealize.ShloMosaic.Lib.Pipeline.Frame
public import Idealize.ShloMosaic.Lib.Tactic

@[expose] public section

set_option maxRecDepth 16384

noncomputable section

namespace Cert.Quant.Body

open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [BitOps F]

local notation "𝕄" => MT nD τ sig Unit (Elt F) ℕ (UR sig nD τ) ℕ

/-- What the body holds: the four inputs at their contents, what it writes at some contents each. -/
abbrev Held (c : Dev nD) (arg2 : Memref sig .tc .smem S16 .f32) (arg3 : Memref sig .tc .smem S1 .f32) (arg4 : Memref sig .tc .vmem S2048x128 .bf16) (arg5 : Memref sig .tc .vmem S2048x128 .bf16) (arg6 : Memref sig .tc .vmem S256x1024 .i8) (arg7 : Memref sig .tc .vmem S256x128 .fp8e4m3) (arg8 : Memref sig .tc .smem S1 .f32) (arg9 : Memref sig .tc .vmem S2048x256 .bf16) (arg10 : Memref sig .tc .vmem S128x128 .f32) (arg11 : Memref sig .tc .vmem S128x128 .i32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

set_option maxHeartbeats 4000000 in
/-- The body run once: the pieces it writes into each operand, as functions of the contents found in the operands it
    writes, with the triple that says so. -/
@[irreducible] def kernelRun (c : Dev nD) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x1024 .i8) (harg6 : arg6.IsWhole) (arg7 : Memref sig .tc .vmem S256x128 .fp8e4m3) (harg7 : arg7.IsWhole) (arg8 : Memref sig .tc .smem S1 .f32) (harg8 : arg8.IsWhole) (arg9 : Memref sig .tc .vmem S2048x256 .bf16) (harg9 : arg9.IsWhole) (arg10 : Memref sig .tc .vmem S128x128 .f32) (harg10 : arg10.IsWhole) (arg11 : Memref sig .tc .vmem S128x128 .i32) (harg11 : arg11.IsWhole) (arg12 : Memref sig .tc .vmem S64x128 .i32) (harg12 : arg12.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    Σ' (L_arg6 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S256x1024 .i8))) (L_arg7 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S256x128 .fp8e4m3))) (L_arg8 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty)) (L_arg9 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S2048x256 .bf16))) (L_arg10 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S128x128 .f32))), { L_arg11 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S128x128 .i32)) //
      ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty),
        Held (F := F) c arg2 arg3 arg4 arg5 arg6 arg7 arg8 arg9 arg10 arg11 X_arg2 X_arg3 X_arg4 X_arg5 f_arg6 f_arg7 f_arg8 f_arg9 f_arg10 f_arg11
        ⊢ wp frame (wpE (defs₀ (F := F)) Variants.none (c : Thread nD τ) none) E (cc0_quantise_x i arg2 harg2 arg3 harg3 arg4 harg4 arg5 harg5 arg6 harg6 arg7 harg7 arg8 harg8 arg9 harg9 arg10 harg10 arg11 harg11 arg12 harg12)
          (fun _ => Held (F := F) c arg2 arg3 arg4 arg5 arg6 arg7 arg8 arg9 arg10 arg11 X_arg2 X_arg3 X_arg4 X_arg5 (arg6.view.writes (Elt F) f_arg6 (L_arg6 f_arg6 f_arg7 f_arg8 f_arg9 f_arg10 f_arg11)) (arg7.view.writes (Elt F) f_arg7 (L_arg7 f_arg6 f_arg7 f_arg8 f_arg9 f_arg10 f_arg11)) (L_arg8 f_arg6 f_arg7 f_arg8 f_arg9 f_arg10 f_arg11) (arg9.view.writes (Elt F) f_arg9 (L_arg9 f_arg6 f_arg7 f_arg8 f_arg9 f_arg10 f_arg11)) (arg10.view.writes (Elt F) f_arg10 (L_arg10 f_arg6 f_arg7 f_arg8 f_arg9 f_arg10 f_arg11)) (arg11.view.writes (Elt F) f_arg11 (L_arg11 f_arg6 f_arg7 f_arg8 f_arg9 f_arg10 f_arg11))) } := by
  refine ⟨?_, ?_, ?_, ?_, ?_, ?_, fun E f_arg6 f_arg7 f_arg8 f_arg9 f_arg10 f_arg11 => ?run⟩
  case run =>
    simp only [cc0_quantise_x_eq_skeleton]; unfold cc0_quantise_x_skel
    iintro ⟨HR_arg2, HR_arg3, HR_arg4, HR_arg5, HW_arg6, HW_arg7, HW_arg8, HW_arg9, HW_arg10, HW_arg11⟩
    sl_exec
    sl_step
    sl_close

end Cert.Quant.Body

end
-- ==== Proof.QuantFrame.lean ====
/-
  Hand-written, untrusted. The frame of `Quant`: the four results of its call are forgotten, the three arguments end as they were, and every
  semaphore is back at zero.
-/
module

public import proofs.«01_k».proof.Proof.Gen.Quant.Frame
public import proofs.«01_k».proof.Proof.QuantRun
public import Idealize.ShloMosaic.Lib.Pipeline.Frame
public import Idealize.ShloMosaic.Lib.Pipeline.FrameBody
public import Idealize.ShloMosaic.Lib.Tactic

@[expose] public section

set_option maxRecDepth 16384

noncomputable section

namespace Cert.Quant.Body

open Cert.Quant Cert.Quant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The results nothing is said of. -/
def forgets0 : Fin 8 → Bool := fun w => 4 ≤ w.val

/-- The proof data on core `c`: each array as launched; an input's staging buffer left holding its block; the results
    unnamed; the scratch at anything; an array that several inputs read held in shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- Every window begins with its array as launched. -/
theorem A_eq (c : Dev nD) (w : Fin cfg0.W) : (dats (F := F) m 0 c).A w = V m c (Pipeline.arrRef spec0 w) := by dsimp only [dats]
/-- What the body leaves in the staging buffer of window 0. -/
theorem after0_0 (c : Dev nD) (t : Fin cfg0.N) : (dats m 0 c).after 0 t = iblk m c 0 t := by dsimp only [dats]
/-- What the body leaves in the staging buffer of window 1. -/
theorem after0_1 (c : Dev nD) (t : Fin cfg0.N) : (dats m 0 c).after 1 t = iblk m c 1 t := by dsimp only [dats]
/-- What the body leaves in the staging buffer of window 2. -/
theorem after0_2 (c : Dev nD) (t : Fin cfg0.N) : (dats m 0 c).after 2 t = iblk m c 2 t := by dsimp only [dats]
/-- What the body leaves in the staging buffer of window 3. -/
theorem after0_3 (c : Dev nD) (t : Fin cfg0.N) : (dats m 0 c).after 3 t = iblk m c 3 t := by dsimp only [dats]
/-- The body finds in the staging buffer of window 0 its block. -/
theorem before0_0 (c : Dev nD) (t : Fin cfg0.N) (d) : (dats m 0 c).before 0 t d = iblk m c 0 t :=
  before0_0_of m (dats m 0 c) (A_eq m c 0) (after0_0 m c) t d
/-- The body finds in the staging buffer of window 1 its block. -/
theorem before0_1 (c : Dev nD) (t : Fin cfg0.N) (d) : (dats m 0 c).before 1 t d = iblk m c 1 t :=
  before0_1_of m (dats m 0 c) (A_eq m c 1) (after0_1 m c) t d
/-- The body finds in the staging buffer of window 2 its block. -/
theorem before0_2 (c : Dev nD) (t : Fin cfg0.N) (d) : (dats m 0 c).before 2 t d = iblk m c 2 t :=
  before0_2_of m (dats m 0 c) (A_eq m c 2) (after0_2 m c) t d
/-- The body finds in the staging buffer of window 3 its block. -/
theorem before0_3 (c : Dev nD) (t : Fin cfg0.N) (d) : (dats m 0 c).before 3 t d = iblk m c 3 t :=
  before0_3_of m (dats m 0 c) (A_eq m c 3) (after0_3 m c) t d

/-- What the body may use besides its windows: the three scratch buffers at some contents, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

set_option maxHeartbeats 2000000 in
/-- The body at any point: the inputs' staging buffers hold their blocks, the run applies, and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl, after0_0, after0_1, after0_2, after0_3]
  generalize iblk m c 0 t = x0
  generalize iblk m c 1 t = x1
  generalize iblk m c 2 t = x2
  generalize iblk m c 3 t = x3
  unfold owns
  iintro ⟨⟨⟨⟨%ds0, %g0, -, S0⟩, ⟨%ds1, %g1, -, S1⟩, ⟨%ds2, %g2, -, S2⟩⟩, Hr⟩, Ho, ⟨%d0, %f0, %e0, H0⟩, ⟨%d1, %f1, %e1, H1⟩, ⟨%d2, %f2, %e2, H2⟩, ⟨%d3, %f3, %e3, H3⟩, ⟨%d4, %f4, -, H4⟩, ⟨%d5, %f5, -, H5⟩, ⟨%d6, %f6, -, H6⟩, ⟨%d7, %f7, -, H7⟩⟩
  subst e0 e1 e2 e3
  iapply wp_wand $$ [H0 H1 H2 H3 H4 H5 H6 H7 S0 S1]
  · iapply ((kernelRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) f0 f1 f2 f3).2.2.2.2.2.2 Set.univ f4 f5 f6 f7 g0 g1)
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    iexact S1
  unfold Held
  iintro %_ ⟨H0, H1, H2, H3, H4, H5, H6, H7, S0, S1⟩
  isplitl [S0 S1 S2 Hr]
  · isplitl [S0 S1 S2]
    · isplitl [S0]
      · iexists _, _; isplitr; swap; · iexact S0
        ipureintro; rfl
      isplitl [S1]
      · iexists _, _; isplitr; swap; · iexact S1
        ipureintro; rfl
      iexists _, _; isplitr; swap; · iexact S2
      ipureintro; rfl
    iexact Hr
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

/-- The body of the pipeline at a grid point, with its arguments. -/
theorem defs₀_row (t : Fin cfg0.N) : defs₀ (F := F) .tc cfg0.body (cfg0.bodyArgs t (cfg0.slots t)) = bodyAt0 t := by
  unfold defs₀; rw [Defs.onTc_tc]

/-- The library's body obligation, the forgotten results at anything. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every weakly fair execution terminates, with the arrays as the proof data has them and every semaphore at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m ρ}

/-- An argument array after the run is the argument array at launch. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(Pipeline.RDat.FramePost.arr_in h c 3 rfl).trans (V_main_arg0 m c),
   (Pipeline.RDat.FramePost.arr_in h c 0 rfl).trans (V_main_arg1 m c),
   (Pipeline.RDat.FramePost.arr_in h c 1 rfl).trans (V_main_arg2 m c)⟩

variable (m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => final_args h.1 c, h.2⟩) (run_main m ρ)

end Cert.Quant.Body

end
-- ==== Proof.QuantUnits.lean ====
/-
  Hand-written, untrusted. One unit of the quantiser, 128 tokens of 128 channels: the words it reads back from scratch, the
  sixteen values of each group, and the scale it computes for the group.
-/
module
public import proofs.«01_k».proof.Proof.Gen.QuantIdeal.Loops
public import Idealize.ShloMosaic.Lib.Pipeline.ValueKit
public import Idealize.ShloMosaic.Lib.Pipeline.ReadBack
public import Idealize.ShloMosaic.Lib.Pointwise
public import Idealize.ShloMosaic.Lib.WritesUnit
@[expose] public section
set_option maxRecDepth 16384
set_option maxHeartbeats 4000000
noncomputable section
namespace Cert.QuantIdeal.Body
open Cert.QuantIdeal Cert.QuantIdeal.Gen
open Idealize.ShloMosaic Idealize.ShloMosaic.TcCoe Idealize.ShloMosaic.Tactic

/-- The eight words of one class of rows: word row `q` of each of the eight groups of eight. -/
def rawVec (X : FVec Ideal S128x128 .bf16) (q : ℕ) : Vec Ideal S8x2x128 .bf16 :=
  fun y => X (ix2 (Fin.ofNat 128 (16 * (y 0).val + (2 * q + (y 1).val))) (y 2))

/-- A strided read of every eighth word row out of the 64 just written gives one class of rows. -/
theorem readCov_strided {sg : RefSig} {base o : ℕ} (v : View sg .tc .vmem S128x2x128 .bf16) (X : FVec Ideal S128x128 .bf16) (inb inb') (h0 h1 h2 h3 h4)
    (L : List (View.Piece (Elt Ideal) S128x2x128 .bf16)) (ho : base ≤ o ∧ o < base + 8) :
    v.readCov ((⟨Rect.unit (s := S128x2x128) ![base, 0, 0] S64x2x128.size inb, interleaveRows S64x2x128 (shapeCast S64x1x128 (rowsOfParity 0 S64x128 X h0) h1)
        (shapeCast S64x1x128 (rowsOfParity 1 S64x128 X h2) h3) h4⟩ : View.Piece (Elt Ideal) S128x2x128 .bf16) :: L)
      ({ off := ![o, 0, 0], size := S8x2x128.size, stride := ![8, 1, 1], inb := inb' } : LoadRect S128x2x128)
      = rawVec X (o - base) := by
  funext y
  obtain ⟨s, p, l, rfl⟩ : ∃ (s : Fin 8) (p : Fin 2) (l : Fin 128), y = ix3 s p l := ⟨y 0, y 1, y 2, eq_ix3 y⟩
  unfold View.readCov rawVec
  rw [View.readAt_apply]
  rw [View.read_writes_cons_unit_of_mem v _ inb _ L _ (ix3 ⟨8 * s.val + (o - base), by omega⟩ p l) rfl]
  · fin_cases p
    · pointwise []
      congr 2
      apply Fin.ext
      simp [Fin.ofNat]
      omega
    · pointwise []
      congr 2
      apply Fin.ext
      simp [Fin.ofNat]
      omega
  · intro a; fin_cases a
    · show o + 8 * s.val = base + (8 * s.val + (o - base))
      omega
    · show 0 + 1 * p.val = 0 + p.val
      omega
    · show 0 + 1 * l.val = 0 + l.val
      omega

/-- A value that is a real number. -/
def IsReal (c : EReal) : Prop := ∃ r : ℝ, c = (r : EReal)

/-- Adding a real number and taking it away again changes nothing. -/
theorem add_sub_real (A c : EReal) (h : IsReal c) : A + c - c = A := by
  obtain ⟨r, rfl⟩ := h
  induction A using EReal.rec
  · simp
  · norm_cast; simp
  · simp

/-- A product of real numbers is real. -/
theorem IsReal.mul {a b : EReal} (ha : IsReal a) (hb : IsReal b) : IsReal (a * b) := by
  obtain ⟨x, rfl⟩ := ha; obtain ⟨y, rfl⟩ := hb; exact ⟨x * y, by norm_cast⟩

/-- The larger of two real numbers is real. -/
theorem IsReal.max {a b : EReal} (ha : IsReal a) (hb : IsReal b) : IsReal (max a b) := by
  rcases max_choice a b with h | h <;> rw [h] <;> assumption

/-- A choice between real numbers is real. -/
theorem IsReal.ite {p : Prop} [Decidable p] {a b : EReal} (ha : IsReal a) (hb : IsReal b) : IsReal (if p then a else b) := by
  split <;> assumption

/-- Zero is real. -/
theorem IsReal.zero : IsReal 0 := ⟨0, by simp⟩

/-- One is real. -/
theorem IsReal.one : IsReal 1 := ⟨1, by simp⟩

/-- A pattern whose exponent is not all ones is a real number. -/
theorem IsReal.bits (w : BitVec 32) (h : (w.extractLsb' 23 8).toNat ≠ 255) : IsReal (Ideal.ofBits .f32 w) := by
  unfold Ideal.ofBits Ideal.ieee
  dsimp only
  rw [if_neg (by simpa using h)]
  split <;> exact ⟨_, rfl⟩

/-- The rows `128 r` to `128 r + 127` of a plane of tokens. -/
def blk (X : FVec Ideal S2048x128 .bf16) (r : ℕ) : FVec Ideal S128x128 .bf16 :=
  fun y => X (ix2 (Fin.ofNat 2048 (128 * r + (y 0).val)) (y 1))

/-- Reading 128 rows from row `128 r` on gives that block of the plane. -/
theorem blk_read {sg : RefSig} (v : View sg .tc .vmem S2048x128 .bf16) (X : BufTy.Contents (Elt Ideal) v.ty) (off : Fin 2 → ℕ) (h0) (r : ℕ)
    (hr : r < 16) (hoff : ∀ a, off a = ![128 * r, 0] a) :
    View.readAt (Elt Ideal) v (Rect.unit (s := S2048x128) off S128x128.size h0).toLoadRect X = blk (v.read (Elt Ideal) X) r := by
  funext y
  rw [View.readAt_apply]
  unfold blk
  congr 1
  funext a
  apply Fin.ext
  fin_cases a
  · have h' : (y 0).val < 128 := (y 0).isLt
    refine (congrArg (· + 1 * (y 0).val) (hoff 0)).trans ?_
    show 128 * r + 1 * (y 0).val = (128 * r + (y 0).val) % 2048
    omega
  · refine (congrArg (· + 1 * (y 1).val) (hoff 1)).trans ?_
    show 0 + 1 * (y 1).val = (y 1).val
    omega

/-- The first token row of a half-trip of loop 1. -/
theorem off1_eq : ∀ (k : Fin k0_t1_loop.trips) (h : Fin 2) (a : Fin 2), k0_off1 k (BitVec.ofNat 32 h.val) a = ![128 * (2 * k.val + h.val), 0] a := by
  decide +kernel
/-- The first scale row of a half-trip of loop 1. -/
theorem off2_eq : ∀ (k : Fin k0_t1_loop.trips) (h : Fin 2) (a : Fin 2), k0_off2 k (BitVec.ofNat 32 h.val) a = ![8 * (2 * k.val + h.val), 0] a := by
  decide +kernel
/-- The first token row of a half-trip of loop 2. -/
theorem off5_eq : ∀ (k : Fin k0_t2_loop.trips) (h : Fin 2) (a : Fin 2), k0_off5 k (BitVec.ofNat 32 h.val) a = ![128 * (2 * k.val + h.val), 0] a := by
  decide +kernel
/-- The first scale row of a half-trip of loop 2. -/
theorem off6_eq : ∀ (k : Fin k0_t2_loop.trips) (h : Fin 2) (a : Fin 2), k0_off6 k (BitVec.ofNat 32 h.val) a = ![8 * (2 * k.val + h.val), 0] a := by
  decide +kernel

/-- One butterfly: a difference or a sum. -/
def pm (b : Bool) (x y : EReal) : EReal := bif b then x - y else x + y

/-- The sixteen values of a group, each with the sign the bits of a row number give it, added in the kernel's order. -/
def bfly (v : Fin 16 → EReal) (b0 b1 b2 b3 : Bool) : EReal :=
  pm b3 (pm b2 (pm b1 (pm b0 (v 0) (v 1)) (pm b0 (v 2) (v 3))) (pm b1 (pm b0 (v 4) (v 5)) (pm b0 (v 6) (v 7))))
    (pm b2 (pm b1 (pm b0 (v 8) (v 9)) (pm b0 (v 10) (v 11))) (pm b1 (pm b0 (v 12) (v 13)) (pm b0 (v 14) (v 15))))

/-- The magnitude of one transformed value. -/
def mag (v : Fin 16 → EReal) (b3 b2 b1 b0 : Bool) : EReal := FloatOps.absf (F := Ideal) (φ := .f32) (bfly v b0 b1 b2 b3)

/-- The largest magnitude of a transformed group. -/
def gmax (v : Fin 16 → EReal) : EReal :=
  (max (max (max (max (max (max (max (max (max (max (max (max (max (max (max (mag v false false false false) (mag v false false false true)) (mag v false false true false)) (mag v false false true true)) (mag v false true false false)) (mag v false true false true)) (mag v false true true false)) (mag v false true true true)) (mag v true false false false)) (mag v true false false true)) (mag v true false true false)) (mag v true false true true)) (mag v true true false false)) (mag v true true false true)) (mag v true true true false)) (mag v true true true true))

/-- The tensor's scale. -/
def tscale (a : EReal) : EReal := if 0 < a then Ideal.div a (Ideal.ofBits .f32 1160249344#32) else 1

/-- The scale of a group. -/
def gscale (a : EReal) (v : Fin 16 → EReal) : EReal :=
  min (Ideal.div (gmax v) (Ideal.ofBits .f32 1086324736#32 * tscale a)) (Ideal.ofBits .f32 1138753536#32)

/-- The sixteen values of group `s` of a block of 128 tokens, in channel `l`. -/
def leaf (X : FVec Ideal S128x128 .bf16) (V : Fin 16 → EReal) (s : Fin 8) (l : Fin 128) : Fin 16 → EReal :=
  fun j => X (ix2 (Fin.ofNat 128 (16 * s.val + j.val)) l) * V j

/-- The signs times a quarter, the last two still to be multiplied. -/
def sgnv (v1 v3 v5 v7 v9 v11 v13 v15 v17 v19 v21 v23 v25 v27 v28 v30 : Ideal .f32) : Fin 16 → EReal :=
  ![v1, v3, v5, v7, v9, v11, v13, v15, v17, v19, v21, v23, v25, v27, v28 * Ideal.ofBits .f32 1048576000#32, v30 * Ideal.ofBits .f32 1048576000#32]

/-- The eight strided reads of the first unit of a trip of loop 1 are the eight classes of rows of its block. -/
theorem raws_t1_h0 (arg4 : Memref sig .tc .vmem S2048x128 .bf16) (arg11 : Memref sig .tc .vmem S128x2x128 .bf16) (X_arg4 : BufTy.Contents (Elt Ideal) arg4.view.ty) (k : Fin k0_t1_loop.trips) :
    trip_k0_t1.sl.v70_raw (F := Ideal) arg4 arg11 X_arg4 k = rawVec (blk (arg4.view.read (Elt Ideal) X_arg4) (2 * k.val + 0)) 0 ∧
    trip_k0_t1.sl.v71_raw (F := Ideal) arg4 arg11 X_arg4 k = rawVec (blk (arg4.view.read (Elt Ideal) X_arg4) (2 * k.val + 0)) 1 ∧
    trip_k0_t1.sl.v72_raw (F := Ideal) arg4 arg11 X_arg4 k = rawVec (blk (arg4.view.read (Elt Ideal) X_arg4) (2 * k.val + 0)) 2 ∧
    trip_k0_t1.sl.v73_raw (F := Ideal) arg4 arg11 X_arg4 k = rawVec (blk (arg4.view.read (Elt Ideal) X_arg4) (2 * k.val + 0)) 3 ∧
    trip_k0_t1.sl.v74_raw (F := Ideal) arg4 arg11 X_arg4 k = rawVec (blk (arg4.view.read (Elt Ideal) X_arg4) (2 * k.val + 0)) 4 ∧
    trip_k0_t1.sl.v75_raw (F := Ideal) arg4 arg11 X_arg4 k = rawVec (blk (arg4.view.read (Elt Ideal) X_arg4) (2 * k.val + 0)) 5 ∧
    trip_k0_t1.sl.v76_raw (F := Ideal) arg4 arg11 X_arg4 k = rawVec (blk (arg4.view.read (Elt Ideal) X_arg4) (2 * k.val + 0)) 6 ∧
    trip_k0_t1.sl.v77_raw (F := Ideal) arg4 arg11 X_arg4 k = rawVec (blk (arg4.view.read (Elt Ideal) X_arg4) (2 * k.val + 0)) 7 := by
  have hk : k.val < 8 := k.isLt
  refine ⟨?_, ?_, ?_, ?_, ?_, ?_, ?_, ?_⟩
  all_goals
    delta trip_k0_t1.sl.v70_raw trip_k0_t1.sl.v71_raw trip_k0_t1.sl.v72_raw trip_k0_t1.sl.v73_raw trip_k0_t1.sl.v74_raw trip_k0_t1.sl.v75_raw trip_k0_t1.sl.v76_raw trip_k0_t1.sl.v77_raw trip_k0_t1.sl.HW_arg11_1 trip_k0_t1.sl.k0_w1 trip_k0_t1.sl.v66_lo trip_k0_t1.sl.v66_hi
    rw [blk_read _ _ (k0_off1 k 0#32) _ (2 * k.val + 0) (by omega) (fun a => off1_eq k 0 a)]
    exact readCov_strided (base := 0) _ _ _ _ _ _ _ _ _ _ (by omega)

/-- The scales that the first unit of a trip of loop 1 computes are those of its groups. -/
theorem unit_t1_h0 (arg4 : Memref sig .tc .vmem S2048x128 .bf16) (arg11 : Memref sig .tc .vmem S128x2x128 .bf16) (v1 v3 v5 v7 v9 v11 v13 v15 v17 v19 v21 v23 v25 v27 v28 v30 v32 : Ideal .f32) (X_arg4 : BufTy.Contents (Elt Ideal) arg4.view.ty) (k : Fin k0_t1_loop.trips) (s : Fin 8) (l : Fin 128) :
    (trip_k0_t1.sl.v1045 (F := Ideal) arg4 arg11 v1 v3 v5 v7 v9 v11 v13 v15 v17 v19 v21 v23 v25 v27 v28 v30 v32 X_arg4 k) (ix2 s l)
      = gscale v32 (leaf (blk (arg4.view.read (Elt Ideal) X_arg4) (2 * k.val + 0)) (sgnv v1 v3 v5 v7 v9 v11 v13 v15 v17 v19 v21 v23 v25 v27 v28 v30) s l) := by
  obtain ⟨h0, h1, h2, h3, h4, h5, h6, h7⟩ := raws_t1_h0 arg4 arg11 X_arg4 k
  delta trip_k0_t1.sl.r_28 trip_k0_t1.sl.r_25 trip_k0_t1.sl.r_6 trip_k0_t1.sl.v76_hi trip_k0_t1.sl.v1045 trip_k0_t1.sl.v72_lo trip_k0_t1.sl.r_5 trip_k0_t1.sl.v74_lo trip_k0_t1.sl.r trip_k0_t1.sl.r_11 trip_k0_t1.sl.r_10 trip_k0_t1.sl.v71_hi trip_k0_t1.sl.r_45 trip_k0_t1.sl.r_4 trip_k0_t1.sl.r_50 trip_k0_t1.sl.v70_hi trip_k0_t1.sl.v76_lo trip_k0_t1.sl.v72_hi trip_k0_t1.sl.r_2 trip_k0_t1.sl.r_20 trip_k0_t1.sl.v73_lo trip_k0_t1.sl.r_51 trip_k0_t1.sl.r_27 trip_k0_t1.sl.cst_68 trip_k0_t1.sl.v71_lo trip_k0_t1.sl.r_16 trip_k0_t1.sl.r_23 trip_k0_t1.sl.v74_hi trip_k0_t1.sl.r_8 trip_k0_t1.sl.r_1 trip_k0_t1.sl.r_7 trip_k0_t1.sl.r_26 trip_k0_t1.sl.r_24 trip_k0_t1.sl.r_14 trip_k0_t1.sl.v73_hi trip_k0_t1.sl.r_12 trip_k0_t1.sl.r_13 trip_k0_t1.sl.r_17 trip_k0_t1.sl.r_49 trip_k0_t1.sl.r_3 trip_k0_t1.sl.r_19 trip_k0_t1.sl.r_46 trip_k0_t1.sl.v75_hi trip_k0_t1.sl.v70_lo trip_k0_t1.sl.r_47 trip_k0_t1.sl.r_21 trip_k0_t1.sl.r_9 trip_k0_t1.sl.r_18 trip_k0_t1.sl.r_15 trip_k0_t1.sl.r_48 trip_k0_t1.sl.v75_lo trip_k0_t1.sl.r_22
  simp only [h0, h1, h2, h3, h4, h5, h6, h7]
  generalize (blk (arg4.view.read (Elt Ideal) X_arg4) (2 * k.val + 0)) = X
  unfold_payloads
  pointwise []
  simp only [rawVec]
  pointwise []
  refine (add_sub_real _ _ ?_).trans ?_
  · repeat' first
      | exact IsReal.zero
      | exact IsReal.one
      | exact IsReal.bits _ (by decide)
      | apply IsReal.ite
      | apply IsReal.max
      | apply IsReal.mul
  · rfl

/-- The eight strided reads of the second unit of a trip of loop 1 are the eight classes of rows of its block. -/
theorem raws_t1_h1 (arg4 : Memref sig .tc .vmem S2048x128 .bf16) (arg11 : Memref sig .tc .vmem S128x2x128 .bf16) (X_arg4 : BufTy.Contents (Elt Ideal) arg4.view.ty) (k : Fin k0_t1_loop.trips) :
    trip_k0_t1.sl.v1059_raw (F := Ideal) arg4 arg11 X_arg4 k = rawVec (blk (arg4.view.read (Elt Ideal) X_arg4) (2 * k.val + 1)) 0 ∧
    trip_k0_t1.sl.v1060_raw (F := Ideal) arg4 arg11 X_arg4 k = rawVec (blk (arg4.view.read (Elt Ideal) X_arg4) (2 * k.val + 1)) 1 ∧
    trip_k0_t1.sl.v1061_raw (F := Ideal) arg4 arg11 X_arg4 k = rawVec (blk (arg4.view.read (Elt Ideal) X_arg4) (2 * k.val + 1)) 2 ∧
    trip_k0_t1.sl.v1062_raw (F := Ideal) arg4 arg11 X_arg4 k = rawVec (blk (arg4.view.read (Elt Ideal) X_arg4) (2 * k.val + 1)) 3 ∧
    trip_k0_t1.sl.v1063_raw (F := Ideal) arg4 arg11 X_arg4 k = rawVec (blk (arg4.view.read (Elt Ideal) X_arg4) (2 * k.val + 1)) 4 ∧
    trip_k0_t1.sl.v1064_raw (F := Ideal) arg4 arg11 X_arg4 k = rawVec (blk (arg4.view.read (Elt Ideal) X_arg4) (2 * k.val + 1)) 5 ∧
    trip_k0_t1.sl.v1065_raw (F := Ideal) arg4 arg11 X_arg4 k = rawVec (blk (arg4.view.read (Elt Ideal) X_arg4) (2 * k.val + 1)) 6 ∧
    trip_k0_t1.sl.v1066_raw (F := Ideal) arg4 arg11 X_arg4 k = rawVec (blk (arg4.view.read (Elt Ideal) X_arg4) (2 * k.val + 1)) 7 := by
  have hk : k.val < 8 := k.isLt
  refine ⟨?_, ?_, ?_, ?_, ?_, ?_, ?_, ?_⟩
  all_goals
    delta trip_k0_t1.sl.v1059_raw trip_k0_t1.sl.v1060_raw trip_k0_t1.sl.v1061_raw trip_k0_t1.sl.v1062_raw trip_k0_t1.sl.v1063_raw trip_k0_t1.sl.v1064_raw trip_k0_t1.sl.v1065_raw trip_k0_t1.sl.v1066_raw trip_k0_t1.sl.HW_arg11_2 trip_k0_t1.sl.k0_w2 trip_k0_t1.sl.v1055_lo trip_k0_t1.sl.v1055_hi
    rw [blk_read _ _ (k0_off1 k 1#32) _ (2 * k.val + 1) (by omega) (fun a => off1_eq k 1 a)]
    exact readCov_strided (base := 64) _ _ _ _ _ _ _ _ _ _ (by omega)

/-- The scales that the second unit of a trip of loop 1 computes are those of its groups. -/
theorem unit_t1_h1 (arg4 : Memref sig .tc .vmem S2048x128 .bf16) (arg11 : Memref sig .tc .vmem S128x2x128 .bf16) (v1 v3 v5 v7 v9 v11 v13 v15 v17 v19 v21 v23 v25 v27 v28 v30 v32 : Ideal .f32) (X_arg4 : BufTy.Contents (Elt Ideal) arg4.view.ty) (k : Fin k0_t1_loop.trips) (s : Fin 8) (l : Fin 128) :
    (k0_pay373 (trip_k0_t1.sl.r_173 (F := Ideal) arg4 arg11 v1 v3 v5 v7 v9 v11 v13 v15 v17 v19 v21 v23 v25 v27 v28 v30 v32 X_arg4 k)) (ix2 s l)
      = gscale v32 (leaf (blk (arg4.view.read (Elt Ideal) X_arg4) (2 * k.val + 1)) (sgnv v1 v3 v5 v7 v9 v11 v13 v15 v17 v19 v21 v23 v25 v27 v28 v30) s l) := by
  obtain ⟨h0, h1, h2, h3, h4, h5, h6, h7⟩ := raws_t1_h1 arg4 arg11 X_arg4 k
  delta trip_k0_t1.sl.r_164 trip_k0_t1.sl.r_150 trip_k0_t1.sl.r_138 trip_k0_t1.sl.r_119 trip_k0_t1.sl.cst_407 trip_k0_t1.sl.r_139 trip_k0_t1.sl.r_136 trip_k0_t1.sl.r_155 trip_k0_t1.sl.r_124 trip_k0_t1.sl.r_142 trip_k0_t1.sl.r_118 trip_k0_t1.sl.r_147 trip_k0_t1.sl.r_154 trip_k0_t1.sl.r_173 trip_k0_t1.sl.r_167 trip_k0_t1.sl.r_121 trip_k0_t1.sl.r_161 trip_k0_t1.sl.r_141 trip_k0_t1.sl.r_134 trip_k0_t1.sl.r_137 trip_k0_t1.sl.r_135 trip_k0_t1.sl.r_170 trip_k0_t1.sl.r_133 trip_k0_t1.sl.r_143 trip_k0_t1.sl.r_144 trip_k0_t1.sl.r_157 trip_k0_t1.sl.r_125 trip_k0_t1.sl.r_120 trip_k0_t1.sl.r_159 trip_k0_t1.sl.r_146 trip_k0_t1.sl.r_148 trip_k0_t1.sl.r_149 trip_k0_t1.sl.r_145 trip_k0_t1.sl.r_132 trip_k0_t1.sl.v1059_lo trip_k0_t1.sl.r_163 trip_k0_t1.sl.r_126 trip_k0_t1.sl.r_158 trip_k0_t1.sl.r_130 trip_k0_t1.sl.r_129 trip_k0_t1.sl.r_169 trip_k0_t1.sl.r_127 trip_k0_t1.sl.r_131 trip_k0_t1.sl.r_152 trip_k0_t1.sl.r_165 trip_k0_t1.sl.r_122 trip_k0_t1.sl.r_166 trip_k0_t1.sl.r_128 trip_k0_t1.sl.r_171 trip_k0_t1.sl.r_160 trip_k0_t1.sl.r_156 trip_k0_t1.sl.v1059_hi trip_k0_t1.sl.r_168 trip_k0_t1.sl.r_162 trip_k0_t1.sl.r_123 trip_k0_t1.sl.r_172 trip_k0_t1.sl.r_140
  simp only [h0, h1, h2, h3, h4, h5, h6, h7]
  generalize (blk (arg4.view.read (Elt Ideal) X_arg4) (2 * k.val + 1)) = X
  unfold_payloads
  pointwise []
  simp only [rawVec]
  pointwise []
  refine (add_sub_real _ _ ?_).trans ?_
  · repeat' first
      | exact IsReal.zero
      | exact IsReal.one
      | exact IsReal.bits _ (by decide)
      | apply IsReal.ite
      | apply IsReal.max
      | apply IsReal.mul
  · rfl

/-- The eight strided reads of the first unit of a trip of loop 2 are the eight classes of rows of its block. -/
theorem raws_t2_h0 (arg5 : Memref sig .tc .vmem S2048x128 .bf16) (arg11 : Memref sig .tc .vmem S128x2x128 .bf16) (X_arg5 : BufTy.Contents (Elt Ideal) arg5.view.ty) (k : Fin k0_t2_loop.trips) :
    trip_k0_t2.sl.v70_raw (F := Ideal) arg5 arg11 X_arg5 k = rawVec (blk (arg5.view.read (Elt Ideal) X_arg5) (2 * k.val + 0)) 0 ∧
    trip_k0_t2.sl.v71_raw (F := Ideal) arg5 arg11 X_arg5 k = rawVec (blk (arg5.view.read (Elt Ideal) X_arg5) (2 * k.val + 0)) 1 ∧
    trip_k0_t2.sl.v72_raw (F := Ideal) arg5 arg11 X_arg5 k = rawVec (blk (arg5.view.read (Elt Ideal) X_arg5) (2 * k.val + 0)) 2 ∧
    trip_k0_t2.sl.v73_raw (F := Ideal) arg5 arg11 X_arg5 k = rawVec (blk (arg5.view.read (Elt Ideal) X_arg5) (2 * k.val + 0)) 3 ∧
    trip_k0_t2.sl.v74_raw (F := Ideal) arg5 arg11 X_arg5 k = rawVec (blk (arg5.view.read (Elt Ideal) X_arg5) (2 * k.val + 0)) 4 ∧
    trip_k0_t2.sl.v75_raw (F := Ideal) arg5 arg11 X_arg5 k = rawVec (blk (arg5.view.read (Elt Ideal) X_arg5) (2 * k.val + 0)) 5 ∧
    trip_k0_t2.sl.v76_raw (F := Ideal) arg5 arg11 X_arg5 k = rawVec (blk (arg5.view.read (Elt Ideal) X_arg5) (2 * k.val + 0)) 6 ∧
    trip_k0_t2.sl.v77_raw (F := Ideal) arg5 arg11 X_arg5 k = rawVec (blk (arg5.view.read (Elt Ideal) X_arg5) (2 * k.val + 0)) 7 := by
  have hk : k.val < 8 := k.isLt
  refine ⟨?_, ?_, ?_, ?_, ?_, ?_, ?_, ?_⟩
  all_goals
    delta trip_k0_t2.sl.v70_raw trip_k0_t2.sl.v71_raw trip_k0_t2.sl.v72_raw trip_k0_t2.sl.v73_raw trip_k0_t2.sl.v74_raw trip_k0_t2.sl.v75_raw trip_k0_t2.sl.v76_raw trip_k0_t2.sl.v77_raw trip_k0_t2.sl.HW_arg11_1 trip_k0_t2.sl.k0_w3 trip_k0_t2.sl.v66_lo trip_k0_t2.sl.v66_hi
    rw [blk_read _ _ (k0_off5 k 0#32) _ (2 * k.val + 0) (by omega) (fun a => off5_eq k 0 a)]
    exact readCov_strided (base := 0) _ _ _ _ _ _ _ _ _ _ (by omega)

/-- The scales that the first unit of a trip of loop 2 computes are those of its groups. -/
theorem unit_t2_h0 (arg5 : Memref sig .tc .vmem S2048x128 .bf16) (arg11 : Memref sig .tc .vmem S128x2x128 .bf16) (v1 v3 v5 v7 v9 v11 v13 v15 v17 v19 v21 v23 v25 v27 v28 v30 v32 : Ideal .f32) (X_arg5 : BufTy.Contents (Elt Ideal) arg5.view.ty) (k : Fin k0_t2_loop.trips) (s : Fin 8) (l : Fin 128) :
    (trip_k0_t2.sl.v1045 (F := Ideal) arg5 arg11 v1 v3 v5 v7 v9 v11 v13 v15 v17 v19 v21 v23 v25 v27 v28 v30 v32 X_arg5 k) (ix2 s l)
      = gscale v32 (leaf (blk (arg5.view.read (Elt Ideal) X_arg5) (2 * k.val + 0)) (sgnv v1 v3 v5 v7 v9 v11 v13 v15 v17 v19 v21 v23 v25 v27 v28 v30) s l) := by
  obtain ⟨h0, h1, h2, h3, h4, h5, h6, h7⟩ := raws_t2_h0 arg5 arg11 X_arg5 k
  delta trip_k0_t2.sl.v70_hi trip_k0_t2.sl.r_12 trip_k0_t2.sl.r_17 trip_k0_t2.sl.cst_68 trip_k0_t2.sl.r_50 trip_k0_t2.sl.r_1 trip_k0_t2.sl.r_11 trip_k0_t2.sl.r_46 trip_k0_t2.sl.r_25 trip_k0_t2.sl.r_8 trip_k0_t2.sl.v71_lo trip_k0_t2.sl.v70_lo trip_k0_t2.sl.v71_hi trip_k0_t2.sl.r_45 trip_k0_t2.sl.v74_lo trip_k0_t2.sl.r_13 trip_k0_t2.sl.v1045 trip_k0_t2.sl.r_18 trip_k0_t2.sl.r_3 trip_k0_t2.sl.v74_hi trip_k0_t2.sl.r_19 trip_k0_t2.sl.r_27 trip_k0_t2.sl.r_26 trip_k0_t2.sl.v76_lo trip_k0_t2.sl.r_16 trip_k0_t2.sl.r_24 trip_k0_t2.sl.r_47 trip_k0_t2.sl.r_28 trip_k0_t2.sl.r_51 trip_k0_t2.sl.r_15 trip_k0_t2.sl.r_7 trip_k0_t2.sl.r trip_k0_t2.sl.r_49 trip_k0_t2.sl.r_14 trip_k0_t2.sl.r_23 trip_k0_t2.sl.v76_hi trip_k0_t2.sl.r_10 trip_k0_t2.sl.r_9 trip_k0_t2.sl.v72_hi trip_k0_t2.sl.v75_hi trip_k0_t2.sl.r_48 trip_k0_t2.sl.r_5 trip_k0_t2.sl.r_22 trip_k0_t2.sl.r_4 trip_k0_t2.sl.v73_hi trip_k0_t2.sl.r_2 trip_k0_t2.sl.v72_lo trip_k0_t2.sl.v75_lo trip_k0_t2.sl.r_20 trip_k0_t2.sl.r_21 trip_k0_t2.sl.v73_lo trip_k0_t2.sl.r_6
  simp only [h0, h1, h2, h3, h4, h5, h6, h7]
  generalize (blk (arg5.view.read (Elt Ideal) X_arg5) (2 * k.val + 0)) = X
  unfold_payloads
  pointwise []
  simp only [rawVec]
  pointwise []
  refine (add_sub_real _ _ ?_).trans ?_
  · repeat' first
      | exact IsReal.zero
      | exact IsReal.one
      | exact IsReal.bits _ (by decide)
      | apply IsReal.ite
      | apply IsReal.max
      | apply IsReal.mul
  · rfl

/-- The eight strided reads of the second unit of a trip of loop 2 are the eight classes of rows of its block. -/
theorem raws_t2_h1 (arg5 : Memref sig .tc .vmem S2048x128 .bf16) (arg11 : Memref sig .tc .vmem S128x2x128 .bf16) (X_arg5 : BufTy.Contents (Elt Ideal) arg5.view.ty) (k : Fin k0_t2_loop.trips) :
    trip_k0_t2.sl.v1059_raw (F := Ideal) arg5 arg11 X_arg5 k = rawVec (blk (arg5.view.read (Elt Ideal) X_arg5) (2 * k.val + 1)) 0 ∧
    trip_k0_t2.sl.v1060_raw (F := Ideal) arg5 arg11 X_arg5 k = rawVec (blk (arg5.view.read (Elt Ideal) X_arg5) (2 * k.val + 1)) 1 ∧
    trip_k0_t2.sl.v1061_raw (F := Ideal) arg5 arg11 X_arg5 k = rawVec (blk (arg5.view.read (Elt Ideal) X_arg5) (2 * k.val + 1)) 2 ∧
    trip_k0_t2.sl.v1062_raw (F := Ideal) arg5 arg11 X_arg5 k = rawVec (blk (arg5.view.read (Elt Ideal) X_arg5) (2 * k.val + 1)) 3 ∧
    trip_k0_t2.sl.v1063_raw (F := Ideal) arg5 arg11 X_arg5 k = rawVec (blk (arg5.view.read (Elt Ideal) X_arg5) (2 * k.val + 1)) 4 ∧
    trip_k0_t2.sl.v1064_raw (F := Ideal) arg5 arg11 X_arg5 k = rawVec (blk (arg5.view.read (Elt Ideal) X_arg5) (2 * k.val + 1)) 5 ∧
    trip_k0_t2.sl.v1065_raw (F := Ideal) arg5 arg11 X_arg5 k = rawVec (blk (arg5.view.read (Elt Ideal) X_arg5) (2 * k.val + 1)) 6 ∧
    trip_k0_t2.sl.v1066_raw (F := Ideal) arg5 arg11 X_arg5 k = rawVec (blk (arg5.view.read (Elt Ideal) X_arg5) (2 * k.val + 1)) 7 := by
  have hk : k.val < 8 := k.isLt
  refine ⟨?_, ?_, ?_, ?_, ?_, ?_, ?_, ?_⟩
  all_goals
    delta trip_k0_t2.sl.v1059_raw trip_k0_t2.sl.v1060_raw trip_k0_t2.sl.v1061_raw trip_k0_t2.sl.v1062_raw trip_k0_t2.sl.v1063_raw trip_k0_t2.sl.v1064_raw trip_k0_t2.sl.v1065_raw trip_k0_t2.sl.v1066_raw trip_k0_t2.sl.HW_arg11_2 trip_k0_t2.sl.k0_w4 trip_k0_t2.sl.v1055_lo trip_k0_t2.sl.v1055_hi
    rw [blk_read _ _ (k0_off5 k 1#32) _ (2 * k.val + 1) (by omega) (fun a => off5_eq k 1 a)]
    exact readCov_strided (base := 64) _ _ _ _ _ _ _ _ _ _ (by omega)

/-- The scales that the second unit of a trip of loop 2 computes are those of its groups. -/
theorem unit_t2_h1 (arg5 : Memref sig .tc .vmem S2048x128 .bf16) (arg11 : Memref sig .tc .vmem S128x2x128 .bf16) (v1 v3 v5 v7 v9 v11 v13 v15 v17 v19 v21 v23 v25 v27 v28 v30 v32 : Ideal .f32) (X_arg5 : BufTy.Contents (Elt Ideal) arg5.view.ty) (k : Fin k0_t2_loop.trips) (s : Fin 8) (l : Fin 128) :
    (k0_pay750 (trip_k0_t2.sl.r_173 (F := Ideal) arg5 arg11 v1 v3 v5 v7 v9 v11 v13 v15 v17 v19 v21 v23 v25 v27 v28 v30 v32 X_arg5 k)) (ix2 s l)
      = gscale v32 (leaf (blk (arg5.view.read (Elt Ideal) X_arg5) (2 * k.val + 1)) (sgnv v1 v3 v5 v7 v9 v11 v13 v15 v17 v19 v21 v23 v25 v27 v28 v30) s l) := by
  obtain ⟨h0, h1, h2, h3, h4, h5, h6, h7⟩ := raws_t2_h1 arg5 arg11 X_arg5 k
  delta trip_k0_t2.sl.r_164 trip_k0_t2.sl.r_150 trip_k0_t2.sl.r_138 trip_k0_t2.sl.r_119 trip_k0_t2.sl.cst_407 trip_k0_t2.sl.r_139 trip_k0_t2.sl.r_136 trip_k0_t2.sl.r_155 trip_k0_t2.sl.r_124 trip_k0_t2.sl.r_142 trip_k0_t2.sl.r_118 trip_k0_t2.sl.r_147 trip_k0_t2.sl.r_154 trip_k0_t2.sl.r_173 trip_k0_t2.sl.r_167 trip_k0_t2.sl.r_121 trip_k0_t2.sl.r_161 trip_k0_t2.sl.r_141 trip_k0_t2.sl.r_134 trip_k0_t2.sl.r_137 trip_k0_t2.sl.r_135 trip_k0_t2.sl.r_170 trip_k0_t2.sl.r_133 trip_k0_t2.sl.r_143 trip_k0_t2.sl.r_144 trip_k0_t2.sl.r_157 trip_k0_t2.sl.r_125 trip_k0_t2.sl.r_120 trip_k0_t2.sl.r_159 trip_k0_t2.sl.r_146 trip_k0_t2.sl.r_148 trip_k0_t2.sl.r_149 trip_k0_t2.sl.r_145 trip_k0_t2.sl.r_132 trip_k0_t2.sl.v1059_lo trip_k0_t2.sl.r_163 trip_k0_t2.sl.r_126 trip_k0_t2.sl.r_158 trip_k0_t2.sl.r_130 trip_k0_t2.sl.r_129 trip_k0_t2.sl.r_169 trip_k0_t2.sl.r_127 trip_k0_t2.sl.r_131 trip_k0_t2.sl.r_152 trip_k0_t2.sl.r_165 trip_k0_t2.sl.r_122 trip_k0_t2.sl.r_166 trip_k0_t2.sl.r_128 trip_k0_t2.sl.r_171 trip_k0_t2.sl.r_160 trip_k0_t2.sl.r_156 trip_k0_t2.sl.v1059_hi trip_k0_t2.sl.r_168 trip_k0_t2.sl.r_162 trip_k0_t2.sl.r_123 trip_k0_t2.sl.r_172 trip_k0_t2.sl.r_140
  simp only [h0, h1, h2, h3, h4, h5, h6, h7]
  generalize (blk (arg5.view.read (Elt Ideal) X_arg5) (2 * k.val + 1)) = X
  unfold_payloads
  pointwise []
  simp only [rawVec]
  pointwise []
  refine (add_sub_real _ _ ?_).trans ?_
  · repeat' first
      | exact IsReal.zero
      | exact IsReal.one
      | exact IsReal.bits _ (by decide)
      | apply IsReal.ite
      | apply IsReal.max
      | apply IsReal.mul
  · rfl

end Cert.QuantIdeal.Body
-- ==== Proof.QuantHadamard.lean ====
/-
  Hand-written, untrusted. The sixteen-value transform the quantiser computes by butterflies is, over the extended reals
  and up to sign, the product with the Hadamard matrix: where every value is a real number the two sums are equal, and
  where some value is infinite every transformed value is infinite on both sides.
-/
module

public import proofs.«01_k».proof.Proof.QuantUnits

@[expose] public section

set_option maxRecDepth 16384

noncomputable section

namespace Cert.QuantIdeal.Body

open Idealize.ShloMosaic
open scoped BigOperators

/-- The value `y`, negated where `b` says so. -/
def sg (b : Bool) (y : EReal) : EReal := bif b then -y else y

/-- The sign at one row and one column of the Hadamard matrix: the parity of the bits the two numbers share. -/
def hs (b0 b1 b2 b3 : Bool) (j : Fin 16) : Bool :=
  ((b0 && j.val.testBit 0) ^^ (b1 && j.val.testBit 1)) ^^ ((b2 && j.val.testBit 2) ^^ (b3 && j.val.testBit 3))

/-- The transformed value as a sum over the group. -/
def hsum (v : Fin 16 → EReal) (b0 b1 b2 b3 : Bool) : EReal := ∑ j : Fin 16, sg (hs b0 b1 b2 b3 j) (v j)

/-- The butterfly over the reals. -/
def pmR (b : Bool) (x y : ℝ) : ℝ := bif b then x - y else x + y

/-- The negation over the reals. -/
def sgR (b : Bool) (y : ℝ) : ℝ := bif b then -y else y

/-- A butterfly of real numbers is the real one. -/
theorem pm_coe (b : Bool) (x y : ℝ) : pm b (x : EReal) (y : EReal) = ((pmR b x y : ℝ) : EReal) := by
  cases b
  · exact (EReal.coe_add x y).symm
  · exact (EReal.coe_sub x y).symm

/-- A negation of a real number is the real one. -/
theorem sg_coe (b : Bool) (y : ℝ) : sg b (y : EReal) = ((sgR b y : ℝ) : EReal) := by
  cases b
  · rfl
  · exact (EReal.coe_neg y).symm

/-- An infinite value. -/
def Inf (x : EReal) : Prop := x = ⊤ ∨ x = ⊥

/-- A sum with an infinite summand is infinite. -/
theorem Inf.add {x y : EReal} (h : Inf x ∨ Inf y) : Inf (x + y) := by
  unfold Inf at *
  induction x with
  | bot => exact .inr (EReal.bot_add y)
  | top =>
    induction y with
    | bot => exact .inr (EReal.add_bot _)
    | top => exact .inl rfl
    | coe r => exact .inl (EReal.top_add_coe r)
  | coe s =>
    induction y with
    | bot => exact .inr (EReal.add_bot _)
    | top => exact .inl (EReal.coe_add_top s)
    | coe r => simp at h

/-- A negated infinite value is infinite. -/
theorem Inf.neg {x : EReal} (h : Inf x) : Inf (-x) := by
  rcases h with rfl | rfl
  · exact .inr EReal.neg_top
  · exact .inl EReal.neg_bot

/-- A butterfly with an infinite operand is infinite. -/
theorem Inf.pm (b : Bool) {x y : EReal} (h : Inf x ∨ Inf y) : Inf (pm b x y) := by
  cases b
  · exact Inf.add h
  · show Inf (x - y)
    rw [sub_eq_add_neg]
    exact Inf.add (h.imp_right Inf.neg)

/-- A value that may be negated stays infinite. -/
theorem Inf.sg (b : Bool) {x : EReal} (h : Inf x) : Inf (sg b x) := by
  cases b
  · exact h
  · exact h.neg

/-- A finite sum with an infinite summand is infinite. -/
theorem Inf.sum {ι : Type} [DecidableEq ι] (s : Finset ι) (f : ι → EReal) (j : ι) (hj : j ∈ s) (h : Inf (f j)) : Inf (∑ i ∈ s, f i) := by
  rw [← Finset.add_sum_erase s f hj]
  exact Inf.add (.inl h)

/-- The magnitude of an infinite value is the top. -/
theorem Inf.abs {x : EReal} (h : Inf x) : FloatOps.absf (F := Ideal) (φ := .f32) x = (⊤ : EReal) := by
  show max x (-x) = ⊤
  rcases h with rfl | rfl
  · exact max_eq_left le_top
  · rw [EReal.neg_bot]; exact max_eq_right le_top

/-- A value that is not infinite is a real number. -/
theorem real_of_not_inf {x : EReal} (h : ¬ Inf x) : ∃ r : ℝ, x = (r : EReal) := by
  unfold Inf at h
  induction x with
  | bot => simp at h
  | top => simp at h
  | coe r => exact ⟨r, rfl⟩

/-- A sum of real numbers is the real sum. -/
theorem coe_sum {ι : Type} [DecidableEq ι] (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- The butterflies over the reals are the signed sum. -/
theorem bfly_real (f : Fin 16 → ℝ) (b0 b1 b2 b3 : Bool) :
    pmR b3 (pmR b2 (pmR b1 (pmR b0 (f 0) (f 1)) (pmR b0 (f 2) (f 3))) (pmR b1 (pmR b0 (f 4) (f 5)) (pmR b0 (f 6) (f 7))))
      (pmR b2 (pmR b1 (pmR b0 (f 8) (f 9)) (pmR b0 (f 10) (f 11))) (pmR b1 (pmR b0 (f 12) (f 13)) (pmR b0 (f 14) (f 15))))
      = ∑ j : Fin 16, sgR (hs b0 b1 b2 b3 j) (f j) := by
  have hm : ∀ (b : Bool) (x y : ℝ), pmR b x y = x + sgR b y := fun b x y => by
    cases b
    · rfl
    · exact sub_eq_add_neg x y
  have ha : ∀ (b : Bool) (x y : ℝ), sgR b (x + y) = sgR b x + sgR b y := fun b x y => by
    cases b
    · rfl
    · exact neg_add x y
  have hx : ∀ (a b : Bool) (x : ℝ), sgR a (sgR b x) = sgR (a ^^ b) x := fun a b x => by
    cases a <;> cases b <;> simp [sgR]
  have hj : ∀ (b0 b1 b2 b3 : Bool) (j : Fin 16), hs b0 b1 b2 b3 j
      = (![false, b0, b1, b1 ^^ b0, b2, b2 ^^ b0, b2 ^^ b1, b2 ^^ (b1 ^^ b0), b3, b3 ^^ b0, b3 ^^ b1, b3 ^^ (b1 ^^ b0), b3 ^^ b2,
        b3 ^^ (b2 ^^ b0), b3 ^^ (b2 ^^ b1), b3 ^^ (b2 ^^ (b1 ^^ b0))] : Fin 16 → Bool) j := by decide +kernel
  simp only [hj, Fin.sum_univ_succ, Fin.sum_univ_zero]
  simp only [hm, ha, hx]
  show _ = f 0 + (sgR b0 (f 1) + (sgR b1 (f 2) + (sgR (b1 ^^ b0) (f 3) + (sgR b2 (f 4) + (sgR (b2 ^^ b0) (f 5) + (sgR (b2 ^^ b1) (f 6)
    + (sgR (b2 ^^ (b1 ^^ b0)) (f 7) + (sgR b3 (f 8) + (sgR (b3 ^^ b0) (f 9) + (sgR (b3 ^^ b1) (f 10) + (sgR (b3 ^^ (b1 ^^ b0)) (f 11)
    + (sgR (b3 ^^ b2) (f 12) + (sgR (b3 ^^ (b2 ^^ b0)) (f 13) + (sgR (b3 ^^ (b2 ^^ b1)) (f 14) + (sgR (b3 ^^ (b2 ^^ (b1 ^^ b0))) (f 15) + 0)))))))))))))))
  ring

/-- The butterflies and the signed sum have the same magnitude. -/
theorem mag_eq (v : Fin 16 → EReal) (b0 b1 b2 b3 : Bool) :
    mag v b3 b2 b1 b0 = FloatOps.absf (F := Ideal) (φ := .f32) (hsum v b0 b1 b2 b3) := by
  unfold mag
  by_cases h : ∃ j, Inf (v j)
  · obtain ⟨j, hj⟩ := h
    have h1 : Inf (bfly v b0 b1 b2 b3) := by
      unfold bfly
      have e : ∀ (a b c d : Fin 16), Inf (v a) ∨ Inf (v b) ∨ Inf (v c) ∨ Inf (v d) → Inf (pm b1 (pm b0 (v a) (v b)) (pm b0 (v c) (v d))) := by
        intro a b c d h
        refine Inf.pm _ ?_
        rcases h with h | h | h | h
        · exact .inl (Inf.pm _ (.inl h))
        · exact .inl (Inf.pm _ (.inr h))
        · exact .inr (Inf.pm _ (.inl h))
        · exact .inr (Inf.pm _ (.inr h))
      have c : (Inf (v 0) ∨ Inf (v 1) ∨ Inf (v 2) ∨ Inf (v 3)) ∨ (Inf (v 4) ∨ Inf (v 5) ∨ Inf (v 6) ∨ Inf (v 7))
          ∨ (Inf (v 8) ∨ Inf (v 9) ∨ Inf (v 10) ∨ Inf (v 11)) ∨ (Inf (v 12) ∨ Inf (v 13) ∨ Inf (v 14) ∨ Inf (v 15)) := by
        have hex : ∃ j, Inf (v j) := ⟨j, hj⟩
        by_contra hn
        simp only [not_or] at hn
        obtain ⟨⟨n0, n1, n2, n3⟩, ⟨n4, n5, n6, n7⟩, ⟨n8, n9, n10, n11⟩, n12, n13, n14, n15⟩ := hn
        fin_cases j <;> contradiction
      refine Inf.pm _ ?_
      rcases c with c | c | c | c
      · exact .inl (Inf.pm _ (.inl (e _ _ _ _ c)))
      · exact .inl (Inf.pm _ (.inr (e _ _ _ _ c)))
      · exact .inr (Inf.pm _ (.inl (e _ _ _ _ c)))
      · exact .inr (Inf.pm _ (.inr (e _ _ _ _ c)))
    exact h1.abs.trans (Inf.sum _ _ j (Finset.mem_univ _) (Inf.sg _ hj)).abs.symm
  · have hr : ∀ j, ∃ r : ℝ, v j = (r : EReal) := fun j => real_of_not_inf fun hj => h ⟨j, hj⟩
    obtain ⟨f, hf⟩ := Classical.axiom_of_choice hr
    obtain rfl : v = fun j => ((f j : ℝ) : EReal) := funext hf
    congr 1
    unfold bfly hsum
    simp only [pm_coe, sg_coe]
    rw [bfly_real]
    exact coe_sum _ _

/-- The largest of sixteen values, taken one after another, is their supremum. -/
theorem max16 (M : Fin 16 → EReal) :
    max (max (max (max (max (max (max (max (max (max (max (max (max (max (max (M 0) (M 1)) (M 2)) (M 3)) (M 4)) (M 5)) (M 6)) (M 7)) (M 8)) (M 9)) (M 10)) (M 11)) (M 12)) (M 13)) (M 14)) (M 15)
      = Finset.univ.sup M := by
  apply le_antisymm
  · have h : ∀ i, M i ≤ Finset.univ.sup M := fun i => Finset.le_sup (Finset.mem_univ i)
    simp only [max_le_iff, h, and_self]
  · refine Finset.sup_le fun i _ => ?_
    fin_cases i <;> simp

/-- The largest magnitude of a group as the kernel finds it is the largest magnitude of the signed sums. -/
theorem gmax_eq (v : Fin 16 → EReal) : gmax v = Finset.univ.sup fun i : Fin 16 =>
    FloatOps.absf (F := Ideal) (φ := .f32) (hsum v (i.val.testBit 0) (i.val.testBit 1) (i.val.testBit 2) (i.val.testBit 3)) := by
  rw [← max16]
  simp only [← mag_eq]
  rfl

end Cert.QuantIdeal.Body

end
-- ==== Proof.QuantIdealRun.lean ====
/-
  Hand-written, untrusted. One run of the body of `QuantIdeal`'s call: the reads of the signs and of the maximum, the two
  loops over the units of a channel plane (by the generated loop invariants), and the two stores of the block scales.
-/
module

public import proofs.«01_k».proof.Proof.Gen.QuantIdeal.Frame
public import proofs.«01_k».proof.Proof.Gen.QuantIdeal.Loops
public import proofs.«01_k».proof.Proof.Gen.QuantIdeal.Skeleton
public import Idealize.ShloMosaic.Lib.Pipeline.Frame
public import Idealize.ShloMosaic.Lib.Tactic

@[expose] public section

set_option maxRecDepth 16384

noncomputable section

namespace Cert.QuantIdeal.Body

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body holds: the four inputs at their contents, what it writes at some contents each. -/
abbrev Held (c : Dev nD) (arg2 : Memref sig .tc .smem S16 .f32) (arg3 : Memref sig .tc .smem S1 .f32) (arg4 : Memref sig .tc .vmem S2048x128 .bf16) (arg5 : Memref sig .tc .vmem S2048x128 .bf16) (arg6 : Memref sig .tc .vmem S256x1024 .i8) (arg7 : Memref sig .tc .vmem S256x128 .fp8e4m3) (arg8 : Memref sig .tc .smem S1 .f32) (arg9 : Memref sig .tc .vmem S2048x256 .bf16) (arg10 : Memref sig .tc .vmem S128x128 .f32) (arg11 : Memref sig .tc .vmem S128x2x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

set_option maxHeartbeats 4000000 in
/-- The body run once: the pieces it writes into each operand, as functions of the contents found in the operands it
    writes, with the triple that says so. -/
@[irreducible] def kernelRun (c : Dev nD) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x1024 .i8) (harg6 : arg6.IsWhole) (arg7 : Memref sig .tc .vmem S256x128 .fp8e4m3) (harg7 : arg7.IsWhole) (arg8 : Memref sig .tc .smem S1 .f32) (harg8 : arg8.IsWhole) (arg9 : Memref sig .tc .vmem S2048x256 .bf16) (harg9 : arg9.IsWhole) (arg10 : Memref sig .tc .vmem S128x128 .f32) (harg10 : arg10.IsWhole) (arg11 : Memref sig .tc .vmem S128x2x128 .bf16) (harg11 : arg11.IsWhole) (arg12 : Memref sig .tc .vmem S64x128 .i32) (harg12 : arg12.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    Σ' (L_arg6 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S256x1024 .i8))) (L_arg7 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S256x128 .fp8e4m3))) (L_arg8 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty)) (L_arg9 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S2048x256 .bf16))) (L_arg10 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S128x128 .f32))), { L_arg11 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → List (View.Piece (Elt F) S128x2x128 .bf16)) //
      ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty),
        Held (F := F) c arg2 arg3 arg4 arg5 arg6 arg7 arg8 arg9 arg10 arg11 X_arg2 X_arg3 X_arg4 X_arg5 f_arg6 f_arg7 f_arg8 f_arg9 f_arg10 f_arg11
        ⊢ wp frame (wpE (defs₀ (F := F)) Variants.none (c : Thread nD τ) none) E (cc0_quantise_x i arg2 harg2 arg3 harg3 arg4 harg4 arg5 harg5 arg6 harg6 arg7 harg7 arg8 harg8 arg9 harg9 arg10 harg10 arg11 harg11 arg12 harg12)
          (fun _ => Held (F := F) c arg2 arg3 arg4 arg5 arg6 arg7 arg8 arg9 arg10 arg11 X_arg2 X_arg3 X_arg4 X_arg5 (arg6.view.writes (Elt F) f_arg6 (L_arg6 f_arg6 f_arg7 f_arg8 f_arg9 f_arg10 f_arg11)) (arg7.view.writes (Elt F) f_arg7 (L_arg7 f_arg6 f_arg7 f_arg8 f_arg9 f_arg10 f_arg11)) (L_arg8 f_arg6 f_arg7 f_arg8 f_arg9 f_arg10 f_arg11) (arg9.view.writes (Elt F) f_arg9 (L_arg9 f_arg6 f_arg7 f_arg8 f_arg9 f_arg10 f_arg11)) (arg10.view.writes (Elt F) f_arg10 (L_arg10 f_arg6 f_arg7 f_arg8 f_arg9 f_arg10 f_arg11)) (arg11.view.writes (Elt F) f_arg11 (L_arg11 f_arg6 f_arg7 f_arg8 f_arg9 f_arg10 f_arg11))) } := by
  refine ⟨?_, ?_, ?_, ?_, ?_, ?_, fun E f_arg6 f_arg7 f_arg8 f_arg9 f_arg10 f_arg11 => ?run⟩
  case run =>
    simp only [cc0_quantise_x_eq_skeleton]; unfold cc0_quantise_x_skel
    iintro ⟨HR_arg2, HR_arg3, HR_arg4, HR_arg5, HW_arg6, HW_arg7, HW_arg8, HW_arg9, HW_arg10, HW_arg11⟩
    sl_exec
    sl_step
    sl_close

end Cert.QuantIdeal.Body

end
-- ==== Proof.QuantLoops.lean ====
/-
  Hand-written, untrusted. What the two loops leave in the scratch buffer of scales, and what the run of the body stores
  as block scales and as the tensor's scale.
-/
module

public import proofs.«01_k».proof.Proof.QuantUnits
public import proofs.«01_k».proof.Proof.QuantIdealRun

@[expose] public section

set_option maxRecDepth 16384
set_option maxHeartbeats 4000000

noncomputable section

namespace Cert.QuantIdeal.Body

open Cert.QuantIdeal Cert.QuantIdeal.Gen
open Idealize.ShloMosaic Idealize.ShloMosaic.TcCoe Idealize.ShloMosaic.Tactic

/-- The scale in row `r` of the scratch buffer: that of the sixteen tokens from `16 r` on, in channel `l`. -/
def rowScale (a : EReal) (V : Fin 16 → EReal) (X : FVec Ideal S2048x128 .bf16) (r : ℕ) (l : Fin 128) : EReal :=
  gscale a (leaf (blk X (r / 8)) V (Fin.ofNat 8 r) l)

/-- One trip of loop 1 writes sixteen rows of scales and leaves the others. -/
theorem trip_read_t1 (𝒱 : Variants) (c : Dev nD) (bd : Option 𝒱.V) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x1024 .i8) (harg6 : arg6.IsWhole) (arg7 : Memref sig .tc .vmem S256x128 .fp8e4m3) (harg7 : arg7.IsWhole) (arg8 : Memref sig .tc .smem S1 .f32) (harg8 : arg8.IsWhole) (arg9 : Memref sig .tc .vmem S2048x256 .bf16) (harg9 : arg9.IsWhole) (arg10 : Memref sig .tc .vmem S128x128 .f32) (harg10 : arg10.IsWhole) (arg11 : Memref sig .tc .vmem S128x2x128 .bf16) (harg11 : arg11.IsWhole) (arg12 : Memref sig .tc .vmem S64x128 .i32) (harg12 : arg12.IsWhole) (v1 : Ideal .f32) (v3 : Ideal .f32) (v5 : Ideal .f32) (v7 : Ideal .f32) (v9 : Ideal .f32) (v11 : Ideal .f32) (v13 : Ideal .f32) (v15 : Ideal .f32) (v17 : Ideal .f32) (v19 : Ideal .f32) (v21 : Ideal .f32) (v23 : Ideal .f32) (v25 : Ideal .f32) (v27 : Ideal .f32) (v28 : Elt Ideal .f32) (v30 : Elt Ideal .f32) (v32 : Elt Ideal .f32) (X_arg4 : BufTy.Contents (Elt Ideal) arg4.view.ty)   (k : Fin k0_t1_loop.trips) (f6 f9 f10 f11) (G : BufTy.Contents (Elt Ideal) arg10.view.ty) (L : List (View.Piece (Elt Ideal) S128x128 .f32)) (r l : Fin 128) :
    arg10.view.read (Elt Ideal) (arg10.view.writes (Elt Ideal) G ((trip_k0_t1 (F := Ideal) 𝒱 c bd i arg2 harg2 arg3 harg3 arg4 harg4 arg5 harg5 arg6 harg6 arg7 harg7 arg8 harg8 arg9 harg9 arg10 harg10 arg11 harg11 arg12 harg12 v1 v3 v5 v7 v9 v11 v13 v15 v17 v19 v21 v23 v25 v27 v28 v30 v32 X_arg4 k).2.2.1 f6 f9 f10 f11 ++ L)) (ix2 r l)
      = if 16 * k.val ≤ r.val ∧ r.val < 16 * k.val + 16 then rowScale v32 (sgnv v1 v3 v5 v7 v9 v11 v13 v15 v17 v19 v21 v23 v25 v27 v28 v30) (arg4.view.read (Elt Ideal) X_arg4) r.val l
        else arg10.view.read (Elt Ideal) (arg10.view.writes (Elt Ideal) G L) (ix2 r l) := by
  have hk : k.val < 8 := k.isLt
  have o0 : k0_off2 k 0#32 = ![8 * (2 * k.val), 0] := funext fun a => off2_eq k 0 a
  have o1 : k0_off2 k 1#32 = ![8 * (2 * k.val + 1), 0] := funext fun a => off2_eq k 1 a
  unfold trip_k0_t1
  dsimp only [List.cons_append, List.nil_append]
  by_cases h1 : 16 * k.val + 8 ≤ r.val ∧ r.val < 16 * k.val + 16
  · rw [if_pos (by omega)]
    refine (View.read_writes_cons_rows_of_mem _ _ _ _ _ (ix2 r l) (ix2 (⟨r.val - (16 * k.val + 8), by omega⟩ : Fin 8) l) o1 (by show r.val = 8 * (2 * k.val + 1) + (r.val - (16 * k.val + 8)); omega) rfl).trans ?_
    refine (unit_t1_h1 arg4 arg11 v1 v3 v5 v7 v9 v11 v13 v15 v17 v19 v21 v23 v25 v27 v28 v30 v32 X_arg4 k _ l).trans ?_
    unfold rowScale
    congr 2
    · congr 1; omega
    · apply Fin.ext; show r.val - (16 * k.val + 8) = r.val % 8; omega
  · refine (View.read_writes_cons_rows_of_not_mem (W := 8) _ _ _ _ _ (ix2 r l) o1 rfl (by show r.val < 8 * (2 * k.val + 1) ∨ 8 * (2 * k.val + 1) + 8 ≤ r.val; omega)).trans ?_
    by_cases h0 : 16 * k.val ≤ r.val ∧ r.val < 16 * k.val + 8
    · rw [if_pos (by omega)]
      refine (View.read_writes_cons_rows_of_mem _ _ _ _ _ (ix2 r l) (ix2 (⟨r.val - 16 * k.val, by omega⟩ : Fin 8) l) o0 (by show r.val = 8 * (2 * k.val) + (r.val - 16 * k.val); omega) rfl).trans ?_
      refine (unit_t1_h0 arg4 arg11 v1 v3 v5 v7 v9 v11 v13 v15 v17 v19 v21 v23 v25 v27 v28 v30 v32 X_arg4 k _ l).trans ?_
      unfold rowScale
      congr 2
      · congr 1; omega
      · apply Fin.ext; show r.val - 16 * k.val = r.val % 8; omega
    · rw [if_neg (by omega)]
      exact View.read_writes_cons_rows_of_not_mem (W := 8) _ _ _ _ _ (ix2 r l) o0 rfl (by show r.val < 8 * (2 * k.val) ∨ 8 * (2 * k.val) + 8 ≤ r.val; omega)

/-- After `n` trips of loop 1 the first `16 n` rows hold their scales. -/
theorem loop_read_t1 (𝒱 : Variants) (c : Dev nD) (bd : Option 𝒱.V) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x1024 .i8) (harg6 : arg6.IsWhole) (arg7 : Memref sig .tc .vmem S256x128 .fp8e4m3) (harg7 : arg7.IsWhole) (arg8 : Memref sig .tc .smem S1 .f32) (harg8 : arg8.IsWhole) (arg9 : Memref sig .tc .vmem S2048x256 .bf16) (harg9 : arg9.IsWhole) (arg10 : Memref sig .tc .vmem S128x128 .f32) (harg10 : arg10.IsWhole) (arg11 : Memref sig .tc .vmem S128x2x128 .bf16) (harg11 : arg11.IsWhole) (arg12 : Memref sig .tc .vmem S64x128 .i32) (harg12 : arg12.IsWhole) (v1 : Ideal .f32) (v3 : Ideal .f32) (v5 : Ideal .f32) (v7 : Ideal .f32) (v9 : Ideal .f32) (v11 : Ideal .f32) (v13 : Ideal .f32) (v15 : Ideal .f32) (v17 : Ideal .f32) (v19 : Ideal .f32) (v21 : Ideal .f32) (v23 : Ideal .f32) (v25 : Ideal .f32) (v27 : Ideal .f32) (v28 : Elt Ideal .f32) (v30 : Elt Ideal .f32) (v32 : Elt Ideal .f32) (X_arg4 : BufTy.Contents (Elt Ideal) arg4.view.ty)   (G6 G9 G10 G11) (G : BufTy.Contents (Elt Ideal) arg10.view.ty) (L : List (View.Piece (Elt Ideal) S128x128 .f32)) (r l : Fin 128) (n : ℕ) (hn : n ≤ 8) (hr : r.val < 16 * n) :
    arg10.view.read (Elt Ideal) (arg10.view.writes (Elt Ideal) G ((pb_k0_t1 (F := Ideal) 𝒱 c bd i arg2 harg2 arg3 harg3 arg4 harg4 arg5 harg5 arg6 harg6 arg7 harg7 arg8 harg8 arg9 harg9 arg10 harg10 arg11 harg11 arg12 harg12 v1 v3 v5 v7 v9 v11 v13 v15 v17 v19 v21 v23 v25 v27 v28 v30 v32 X_arg4 G6 G9 G10 G11 n).2.2.1 ++ L)) (ix2 r l)
      = rowScale v32 (sgnv v1 v3 v5 v7 v9 v11 v13 v15 v17 v19 v21 v23 v25 v27 v28 v30) (arg4.view.read (Elt Ideal) X_arg4) r.val l := by
  induction n with
  | zero => omega
  | succ n ih =>
    have h := pb_k0_t1_succ (F := Ideal) 𝒱 c bd i arg2 harg2 arg3 harg3 arg4 harg4 arg5 harg5 arg6 harg6 arg7 harg7 arg8 harg8 arg9 harg9 arg10 harg10 arg11 harg11 arg12 harg12 v1 v3 v5 v7 v9 v11 v13 v15 v17 v19 v21 v23 v25 v27 v28 v30 v32 X_arg4 G6 G9 G10 G11 ⟨n, hn⟩
    dsimp only at h
    rw [h]
    dsimp only
    rw [List.append_assoc, trip_read_t1]
    split
    · rfl
    · rename_i hh
      exact ih (by omega) (by dsimp only at hh; omega)

/-- One trip of loop 2 writes sixteen rows of scales and leaves the others. -/
theorem trip_read_t2 (𝒱 : Variants) (c : Dev nD) (bd : Option 𝒱.V) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x1024 .i8) (harg6 : arg6.IsWhole) (arg7 : Memref sig .tc .vmem S256x128 .fp8e4m3) (harg7 : arg7.IsWhole) (arg8 : Memref sig .tc .smem S1 .f32) (harg8 : arg8.IsWhole) (arg9 : Memref sig .tc .vmem S2048x256 .bf16) (harg9 : arg9.IsWhole) (arg10 : Memref sig .tc .vmem S128x128 .f32) (harg10 : arg10.IsWhole) (arg11 : Memref sig .tc .vmem S128x2x128 .bf16) (harg11 : arg11.IsWhole) (arg12 : Memref sig .tc .vmem S64x128 .i32) (harg12 : arg12.IsWhole) (v1 : Ideal .f32) (v3 : Ideal .f32) (v5 : Ideal .f32) (v7 : Ideal .f32) (v9 : Ideal .f32) (v11 : Ideal .f32) (v13 : Ideal .f32) (v15 : Ideal .f32) (v17 : Ideal .f32) (v19 : Ideal .f32) (v21 : Ideal .f32) (v23 : Ideal .f32) (v25 : Ideal .f32) (v27 : Ideal .f32) (v28 : Elt Ideal .f32) (v30 : Elt Ideal .f32) (v32 : Elt Ideal .f32) (X_arg5 : BufTy.Contents (Elt Ideal) arg5.view.ty)   (k : Fin k0_t2_loop.trips) (f6 f9 f10 f11) (G : BufTy.Contents (Elt Ideal) arg10.view.ty) (L : List (View.Piece (Elt Ideal) S128x128 .f32)) (r l : Fin 128) :
    arg10.view.read (Elt Ideal) (arg10.view.writes (Elt Ideal) G ((trip_k0_t2 (F := Ideal) 𝒱 c bd i arg2 harg2 arg3 harg3 arg4 harg4 arg5 harg5 arg6 harg6 arg7 harg7 arg8 harg8 arg9 harg9 arg10 harg10 arg11 harg11 arg12 harg12 v1 v3 v5 v7 v9 v11 v13 v15 v17 v19 v21 v23 v25 v27 v28 v30 v32 X_arg5 k).2.2.1 f6 f9 f10 f11 ++ L)) (ix2 r l)
      = if 16 * k.val ≤ r.val ∧ r.val < 16 * k.val + 16 then rowScale v32 (sgnv v1 v3 v5 v7 v9 v11 v13 v15 v17 v19 v21 v23 v25 v27 v28 v30) (arg5.view.read (Elt Ideal) X_arg5) r.val l
        else arg10.view.read (Elt Ideal) (arg10.view.writes (Elt Ideal) G L) (ix2 r l) := by
  have hk : k.val < 8 := k.isLt
  have o0 : k0_off6 k 0#32 = ![8 * (2 * k.val), 0] := funext fun a => off6_eq k 0 a
  have o1 : k0_off6 k 1#32 = ![8 * (2 * k.val + 1), 0] := funext fun a => off6_eq k 1 a
  unfold trip_k0_t2
  dsimp only [List.cons_append, List.nil_append]
  by_cases h1 : 16 * k.val + 8 ≤ r.val ∧ r.val < 16 * k.val + 16
  · rw [if_pos (by omega)]
    refine (View.read_writes_cons_rows_of_mem _ _ _ _ _ (ix2 r l) (ix2 (⟨r.val - (16 * k.val + 8), by omega⟩ : Fin 8) l) o1 (by show r.val = 8 * (2 * k.val + 1) + (r.val - (16 * k.val + 8)); omega) rfl).trans ?_
    refine (unit_t2_h1 arg5 arg11 v1 v3 v5 v7 v9 v11 v13 v15 v17 v19 v21 v23 v25 v27 v28 v30 v32 X_arg5 k _ l).trans ?_
    unfold rowScale
    congr 2
    · congr 1; omega
    · apply Fin.ext; show r.val - (16 * k.val + 8) = r.val % 8; omega
  · refine (View.read_writes_cons_rows_of_not_mem (W := 8) _ _ _ _ _ (ix2 r l) o1 rfl (by show r.val < 8 * (2 * k.val + 1) ∨ 8 * (2 * k.val + 1) + 8 ≤ r.val; omega)).trans ?_
    by_cases h0 : 16 * k.val ≤ r.val ∧ r.val < 16 * k.val + 8
    · rw [if_pos (by omega)]
      refine (View.read_writes_cons_rows_of_mem _ _ _ _ _ (ix2 r l) (ix2 (⟨r.val - 16 * k.val, by omega⟩ : Fin 8) l) o0 (by show r.val = 8 * (2 * k.val) + (r.val - 16 * k.val); omega) rfl).trans ?_
      refine (unit_t2_h0 arg5 arg11 v1 v3 v5 v7 v9 v11 v13 v15 v17 v19 v21 v23 v25 v27 v28 v30 v32 X_arg5 k _ l).trans ?_
      unfold rowScale
      congr 2
      · congr 1; omega
      · apply Fin.ext; show r.val - 16 * k.val = r.val % 8; omega
    · rw [if_neg (by omega)]
      exact View.read_writes_cons_rows_of_not_mem (W := 8) _ _ _ _ _ (ix2 r l) o0 rfl (by show r.val < 8 * (2 * k.val) ∨ 8 * (2 * k.val) + 8 ≤ r.val; omega)

/-- After `n` trips of loop 2 the first `16 n` rows hold their scales. -/
theorem loop_read_t2 (𝒱 : Variants) (c : Dev nD) (bd : Option 𝒱.V) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x1024 .i8) (harg6 : arg6.IsWhole) (arg7 : Memref sig .tc .vmem S256x128 .fp8e4m3) (harg7 : arg7.IsWhole) (arg8 : Memref sig .tc .smem S1 .f32) (harg8 : arg8.IsWhole) (arg9 : Memref sig .tc .vmem S2048x256 .bf16) (harg9 : arg9.IsWhole) (arg10 : Memref sig .tc .vmem S128x128 .f32) (harg10 : arg10.IsWhole) (arg11 : Memref sig .tc .vmem S128x2x128 .bf16) (harg11 : arg11.IsWhole) (arg12 : Memref sig .tc .vmem S64x128 .i32) (harg12 : arg12.IsWhole) (v1 : Ideal .f32) (v3 : Ideal .f32) (v5 : Ideal .f32) (v7 : Ideal .f32) (v9 : Ideal .f32) (v11 : Ideal .f32) (v13 : Ideal .f32) (v15 : Ideal .f32) (v17 : Ideal .f32) (v19 : Ideal .f32) (v21 : Ideal .f32) (v23 : Ideal .f32) (v25 : Ideal .f32) (v27 : Ideal .f32) (v28 : Elt Ideal .f32) (v30 : Elt Ideal .f32) (v32 : Elt Ideal .f32) (X_arg5 : BufTy.Contents (Elt Ideal) arg5.view.ty)   (G6 G9 G10 G11) (G : BufTy.Contents (Elt Ideal) arg10.view.ty) (L : List (View.Piece (Elt Ideal) S128x128 .f32)) (r l : Fin 128) (n : ℕ) (hn : n ≤ 8) (hr : r.val < 16 * n) :
    arg10.view.read (Elt Ideal) (arg10.view.writes (Elt Ideal) G ((pb_k0_t2 (F := Ideal) 𝒱 c bd i arg2 harg2 arg3 harg3 arg4 harg4 arg5 harg5 arg6 harg6 arg7 harg7 arg8 harg8 arg9 harg9 arg10 harg10 arg11 harg11 arg12 harg12 v1 v3 v5 v7 v9 v11 v13 v15 v17 v19 v21 v23 v25 v27 v28 v30 v32 X_arg5 G6 G9 G10 G11 n).2.2.1 ++ L)) (ix2 r l)
      = rowScale v32 (sgnv v1 v3 v5 v7 v9 v11 v13 v15 v17 v19 v21 v23 v25 v27 v28 v30) (arg5.view.read (Elt Ideal) X_arg5) r.val l := by
  induction n with
  | zero => omega
  | succ n ih =>
    have h := pb_k0_t2_succ (F := Ideal) 𝒱 c bd i arg2 harg2 arg3 harg3 arg4 harg4 arg5 harg5 arg6 harg6 arg7 harg7 arg8 harg8 arg9 harg9 arg10 harg10 arg11 harg11 arg12 harg12 v1 v3 v5 v7 v9 v11 v13 v15 v17 v19 v21 v23 v25 v27 v28 v30 v32 X_arg5 G6 G9 G10 G11 ⟨n, hn⟩
    dsimp only at h
    rw [h]
    dsimp only
    rw [List.append_assoc, trip_read_t2]
    split
    · rfl
    · rename_i hh
      exact ih (by omega) (by dsimp only at hh; omega)

/-- The signs of a group, times a quarter. -/
def quarter (S : FVec Ideal S16 .f32) : Fin 16 → EReal := fun j => S (ix1 j) * Ideal.ofBits .f32 1048576000#32

/-- The block scales the body stores: row `l` of a half is channel `l` of its plane, column `u` group `u` of the chunk. -/
def sbBlk (S : FVec Ideal S16 .f32) (A : FVec Ideal S1 .f32) (X Y : FVec Ideal S2048x128 .bf16) : FVec Ideal S256x128 .fp8e4m3 :=
  fun y => rowScale (A (ix1 0)) (quarter S) (if (y 0).val < 128 then X else Y) (y 1).val (Fin.ofNat 128 (y 0).val)

/-- The tensor's scale as the body stores it. -/
def stBlk (A : FVec Ideal S1 .f32) : FVec Ideal S1 .f32 := fun _ => tscale (A (ix1 0))

/-- The sixteen signs that the body reads and quarters. -/
theorem sgn_eq (arg2 : Memref sig .tc .smem S16 .f32) (X_arg2 : BufTy.Contents (Elt Ideal) arg2.view.ty) :
    sgnv (kernelRun.sl.r_15 (F := Ideal) arg2 X_arg2) (kernelRun.sl.r_16 (F := Ideal) arg2 X_arg2) (kernelRun.sl.r_17 (F := Ideal) arg2 X_arg2) (kernelRun.sl.r_18 (F := Ideal) arg2 X_arg2) (kernelRun.sl.r_19 (F := Ideal) arg2 X_arg2) (kernelRun.sl.r_20 (F := Ideal) arg2 X_arg2) (kernelRun.sl.r_21 (F := Ideal) arg2 X_arg2) (kernelRun.sl.r_22 (F := Ideal) arg2 X_arg2) (kernelRun.sl.r_23 (F := Ideal) arg2 X_arg2) (kernelRun.sl.r_24 (F := Ideal) arg2 X_arg2) (kernelRun.sl.r_25 (F := Ideal) arg2 X_arg2) (kernelRun.sl.r_26 (F := Ideal) arg2 X_arg2) (kernelRun.sl.r_27 (F := Ideal) arg2 X_arg2) (kernelRun.sl.r_28 (F := Ideal) arg2 X_arg2) (kernelRun.sl.r_14 (F := Ideal) arg2 X_arg2) (kernelRun.sl.r_29 (F := Ideal) arg2 X_arg2) = quarter (arg2.view.read (Elt Ideal) X_arg2) := by
  sl_unfold_words
  funext j
  fin_cases j <;> (unfold_payloads; refine congrArg (· * Ideal.ofBits .f32 1048576000#32) (congrArg (arg2.view.read (Elt Ideal) X_arg2) ?_); funext a; apply Fin.ext; fin_cases a; rfl)

/-- The maximum that the body reads. -/
theorem amax_eq (arg3 : Memref sig .tc .smem S1 .f32) (X_arg3 : BufTy.Contents (Elt Ideal) arg3.view.ty) :
    kernelRun.sl.r_30 (F := Ideal) arg3 X_arg3 = arg3.view.read (Elt Ideal) X_arg3 (ix1 0) := by
  sl_unfold_words
  refine congrArg (arg3.view.read (Elt Ideal) X_arg3) ?_
  funext a; apply Fin.ext; fin_cases a; rfl

/-- A rectangle that is the whole buffer moves no index. -/
theorem unit_emb (y : S128x128.Idx) : (Rect.unit (s := S128x128) ![0, 0] S128x128.size inb_S128x128_S128x128_0_0).toLoadRect.idx y = y := by
  funext a; apply Fin.ext; fin_cases a
  · show 0 + 1 * (y 0).val = (y 0).val; omega
  · show 0 + 1 * (y 1).val = (y 1).val; omega

/-- A run of the body stores the block scales of its two planes. -/
theorem run_sb (c : Dev nD) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x1024 .i8) (harg6 : arg6.IsWhole) (arg7 : Memref sig .tc .vmem S256x128 .fp8e4m3) (harg7 : arg7.IsWhole) (arg8 : Memref sig .tc .smem S1 .f32) (harg8 : arg8.IsWhole) (arg9 : Memref sig .tc .vmem S2048x256 .bf16) (harg9 : arg9.IsWhole) (arg10 : Memref sig .tc .vmem S128x128 .f32) (harg10 : arg10.IsWhole) (arg11 : Memref sig .tc .vmem S128x2x128 .bf16) (harg11 : arg11.IsWhole) (arg12 : Memref sig .tc .vmem S64x128 .i32) (harg12 : arg12.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (f6 f7 f8 f9 f10 f11) :
    arg7.view.read (Elt Ideal) (arg7.view.writes (Elt Ideal) f7 ((kernelRun (F := Ideal) c i arg2 harg2 arg3 harg3 arg4 harg4 arg5 harg5 arg6 harg6 arg7 harg7 arg8 harg8 arg9 harg9 arg10 harg10 arg11 harg11 arg12 harg12 X_arg2 X_arg3 X_arg4 X_arg5).2.1 f6 f7 f8 f9 f10 f11))
      = sbBlk (arg2.view.read (Elt Ideal) X_arg2) (arg3.view.read (Elt Ideal) X_arg3) (arg4.view.read (Elt Ideal) X_arg4) (arg5.view.read (Elt Ideal) X_arg5) := by
  funext y
  obtain ⟨p, u, rfl⟩ : ∃ (p : Fin 256) (u : Fin 128), y = ix2 p u := ⟨y 0, y 1, eq_ix2 y⟩
  by_cases hp : p.val < 128
  · refine Eq.trans ?_ (show rowScale (kernelRun.sl.r_30 (F := Ideal) arg3 X_arg3) (sgnv (kernelRun.sl.r_15 (F := Ideal) arg2 X_arg2) (kernelRun.sl.r_16 (F := Ideal) arg2 X_arg2) (kernelRun.sl.r_17 (F := Ideal) arg2 X_arg2) (kernelRun.sl.r_18 (F := Ideal) arg2 X_arg2) (kernelRun.sl.r_19 (F := Ideal) arg2 X_arg2) (kernelRun.sl.r_20 (F := Ideal) arg2 X_arg2) (kernelRun.sl.r_21 (F := Ideal) arg2 X_arg2) (kernelRun.sl.r_22 (F := Ideal) arg2 X_arg2) (kernelRun.sl.r_23 (F := Ideal) arg2 X_arg2) (kernelRun.sl.r_24 (F := Ideal) arg2 X_arg2) (kernelRun.sl.r_25 (F := Ideal) arg2 X_arg2) (kernelRun.sl.r_26 (F := Ideal) arg2 X_arg2) (kernelRun.sl.r_27 (F := Ideal) arg2 X_arg2) (kernelRun.sl.r_28 (F := Ideal) arg2 X_arg2) (kernelRun.sl.r_14 (F := Ideal) arg2 X_arg2) (kernelRun.sl.r_29 (F := Ideal) arg2 X_arg2)) (arg4.view.read (Elt Ideal) X_arg4) u.val (⟨p.val, hp⟩ : Fin 128) = sbBlk (arg2.view.read (Elt Ideal) X_arg2) (arg3.view.read (Elt Ideal) X_arg3) (arg4.view.read (Elt Ideal) X_arg4) (arg5.view.read (Elt Ideal) X_arg5) (ix2 p u) from by
      rw [amax_eq, sgn_eq]
      unfold sbBlk
      refine (congr (congrArg (fun Z => rowScale _ _ Z u.val) (if_pos (show ((ix2 p u : S256x128.Idx) 0).val < 128 from hp)).symm) (Fin.ext ?_))
      show p.val = p.val % 128; omega)
    unfold kernelRun
    dsimp only
    delta kernelRun.sl.r_32 kernelRun.sl.v51 kernelRun.sl.v56
    refine (View.read_writes_cons_rows_of_not_mem (W := 128) (o := 128) _ _ _ _ _ (ix2 p u) rfl rfl (Or.inl hp)).trans ?_
    refine (View.read_writes_cons_rows_of_mem (o := 0) _ _ _ _ _ (ix2 p u) (ix2 (⟨p.val, hp⟩ : Fin 128) u) rfl (by show p.val = 0 + p.val; omega) rfl).trans ?_
    unfold_payloads
    pointwise []
    refine (congrArg (arg10.view.read (Elt Ideal) _) (unit_emb _)).trans ?_
    have h := loop_read_t1 Variants.none c none i arg2 harg2 arg3 harg3 arg4 harg4 arg5 harg5 arg6 harg6 arg7 harg7 arg8 harg8 arg9 harg9 arg10 harg10 arg11 harg11 arg12 harg12 (kernelRun.sl.r_15 arg2 X_arg2) (kernelRun.sl.r_16 arg2 X_arg2) (kernelRun.sl.r_17 arg2 X_arg2) (kernelRun.sl.r_18 arg2 X_arg2) (kernelRun.sl.r_19 arg2 X_arg2) (kernelRun.sl.r_20 arg2 X_arg2) (kernelRun.sl.r_21 arg2 X_arg2) (kernelRun.sl.r_22 arg2 X_arg2) (kernelRun.sl.r_23 arg2 X_arg2) (kernelRun.sl.r_24 arg2 X_arg2) (kernelRun.sl.r_25 arg2 X_arg2) (kernelRun.sl.r_26 arg2 X_arg2) (kernelRun.sl.r_27 arg2 X_arg2) (kernelRun.sl.r_28 arg2 X_arg2) (kernelRun.sl.r_14 arg2 X_arg2) (kernelRun.sl.r_29 arg2 X_arg2) (kernelRun.sl.r_30 arg3 X_arg3) X_arg4 f6 f9 f10 f11 f10 [] u (⟨p.val, hp⟩ : Fin 128) (Scf.trips (0#32) (Scalar.addi 0#32 8#32) 1#32) (by decide) (lt_of_lt_of_le u.isLt (by decide))
    rw [List.append_nil] at h
    exact h
  · refine Eq.trans ?_ (show rowScale (kernelRun.sl.r_30 (F := Ideal) arg3 X_arg3) (sgnv (kernelRun.sl.r_15 (F := Ideal) arg2 X_arg2) (kernelRun.sl.r_16 (F := Ideal) arg2 X_arg2) (kernelRun.sl.r_17 (F := Ideal) arg2 X_arg2) (kernelRun.sl.r_18 (F := Ideal) arg2 X_arg2) (kernelRun.sl.r_19 (F := Ideal) arg2 X_arg2) (kernelRun.sl.r_20 (F := Ideal) arg2 X_arg2) (kernelRun.sl.r_21 (F := Ideal) arg2 X_arg2) (kernelRun.sl.r_22 (F := Ideal) arg2 X_arg2) (kernelRun.sl.r_23 (F := Ideal) arg2 X_arg2) (kernelRun.sl.r_24 (F := Ideal) arg2 X_arg2) (kernelRun.sl.r_25 (F := Ideal) arg2 X_arg2) (kernelRun.sl.r_26 (F := Ideal) arg2 X_arg2) (kernelRun.sl.r_27 (F := Ideal) arg2 X_arg2) (kernelRun.sl.r_28 (F := Ideal) arg2 X_arg2) (kernelRun.sl.r_14 (F := Ideal) arg2 X_arg2) (kernelRun.sl.r_29 (F := Ideal) arg2 X_arg2)) (arg5.view.read (Elt Ideal) X_arg5) u.val (⟨p.val - 128, by omega⟩ : Fin 128) = sbBlk (arg2.view.read (Elt Ideal) X_arg2) (arg3.view.read (Elt Ideal) X_arg3) (arg4.view.read (Elt Ideal) X_arg4) (arg5.view.read (Elt Ideal) X_arg5) (ix2 p u) from by
      rw [amax_eq, sgn_eq]
      unfold sbBlk
      refine (congr (congrArg (fun Z => rowScale _ _ Z u.val) (if_neg (show ¬ ((ix2 p u : S256x128.Idx) 0).val < 128 from hp)).symm) (Fin.ext ?_))
      show p.val - 128 = p.val % 128; omega)
    unfold kernelRun
    dsimp only
    delta kernelRun.sl.r_32 kernelRun.sl.v51 kernelRun.sl.v56
    refine (View.read_writes_cons_rows_of_mem (o := 128) _ _ _ _ _ (ix2 p u) (ix2 (⟨p.val - 128, by omega⟩ : Fin 128) u) rfl (by show p.val = 128 + (p.val - 128); omega) rfl).trans ?_
    unfold_payloads
    pointwise []
    refine (congrArg (arg10.view.read (Elt Ideal) _) (unit_emb _)).trans ?_
    exact (loop_read_t2 Variants.none c none i arg2 harg2 arg3 harg3 arg4 harg4 arg5 harg5 arg6 harg6 arg7 harg7 arg8 harg8 arg9 harg9 arg10 harg10 arg11 harg11 arg12 harg12 (kernelRun.sl.r_15 arg2 X_arg2) (kernelRun.sl.r_16 arg2 X_arg2) (kernelRun.sl.r_17 arg2 X_arg2) (kernelRun.sl.r_18 arg2 X_arg2) (kernelRun.sl.r_19 arg2 X_arg2) (kernelRun.sl.r_20 arg2 X_arg2) (kernelRun.sl.r_21 arg2 X_arg2) (kernelRun.sl.r_22 arg2 X_arg2) (kernelRun.sl.r_23 arg2 X_arg2) (kernelRun.sl.r_24 arg2 X_arg2) (kernelRun.sl.r_25 arg2 X_arg2) (kernelRun.sl.r_26 arg2 X_arg2) (kernelRun.sl.r_27 arg2 X_arg2) (kernelRun.sl.r_28 arg2 X_arg2) (kernelRun.sl.r_14 arg2 X_arg2) (kernelRun.sl.r_29 arg2 X_arg2) (kernelRun.sl.r_30 arg3 X_arg3) X_arg5 _ _ _ _ f10 _ u (⟨p.val - 128, by omega⟩ : Fin 128) (Scf.trips (0#32) (Scalar.addi 0#32 8#32) 1#32) (by decide) (lt_of_lt_of_le u.isLt (by decide)))

/-- A run of the body stores the scale of the tensor. -/
theorem run_st (c : Dev nD) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x1024 .i8) (harg6 : arg6.IsWhole) (arg7 : Memref sig .tc .vmem S256x128 .fp8e4m3) (harg7 : arg7.IsWhole) (arg8 : Memref sig .tc .smem S1 .f32) (harg8 : arg8.IsWhole) (arg9 : Memref sig .tc .vmem S2048x256 .bf16) (harg9 : arg9.IsWhole) (arg10 : Memref sig .tc .vmem S128x128 .f32) (harg10 : arg10.IsWhole) (arg11 : Memref sig .tc .vmem S128x2x128 .bf16) (harg11 : arg11.IsWhole) (arg12 : Memref sig .tc .vmem S64x128 .i32) (harg12 : arg12.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (f6 f7 f8 f9 f10 f11) :
    arg8.view.read (Elt Ideal) ((kernelRun (F := Ideal) c i arg2 harg2 arg3 harg3 arg4 harg4 arg5 harg5 arg6 harg6 arg7 harg7 arg8 harg8 arg9 harg9 arg10 harg10 arg11 harg11 arg12 harg12 X_arg2 X_arg3 X_arg4 X_arg5).2.2.1 f6 f7 f8 f9 f10 f11)
      = stBlk (arg3.view.read (Elt Ideal) X_arg3) := by
  funext y
  obtain ⟨p, rfl⟩ : ∃ p : Fin 1, y = ix1 p := ⟨y 0, eq_ix1 y⟩
  obtain rfl : p = 0 := Subsingleton.elim _ _
  unfold kernelRun
  dsimp only
  sl_unfold_words
  refine (View.read_writes_cons_unit_of_mem _ _ _ _ _ (ix1 0) (ix1 0) rfl (by intro a; fin_cases a; rfl)).trans ?_
  unfold_payloads
  unfold stBlk
  pointwise []
  refine congrArg tscale (congrArg (arg3.view.read (Elt Ideal) X_arg3) ?_)
  funext a; apply Fin.ext; fin_cases a; rfl

end Cert.QuantIdeal.Body
-- ==== Proof.QuantIdealFrame.lean ====
/-
  Hand-written, untrusted. The frame of `QuantIdeal` together with what its call leaves in the block scales and in the second-level scale: the
  codes and the dequantised copy are forgotten, the two scales are named exactly.
-/
module

public import proofs.«01_k».proof.Proof.Gen.QuantIdeal.Frame
public import proofs.«01_k».proof.Proof.QuantIdealRun
public import proofs.«01_k».proof.Proof.QuantLoops
public import Idealize.ShloMosaic.Lib.Pipeline.Frame
public import Idealize.ShloMosaic.Lib.Pipeline.FrameBody
public import Idealize.ShloMosaic.Lib.Tactic

@[expose] public section

set_option maxRecDepth 16384

noncomputable section

namespace Cert.QuantIdeal.Body

open Cert.QuantIdeal Cert.QuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The results nothing is said of. -/
def forgets0 : Fin 8 → Bool := fun w => w.val = 4 ∨ w.val = 7

/-- The proof data on core `c`: each array as launched; an input's staging buffer left holding its block; the block scales
    and the second-level scale named, the other two results unnamed; the scratch at anything; an array that several inputs read held in shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, _⟩ => sbBlk (iblk m c 0 t) (iblk m c 1 t) (iblk m c 2 t) (iblk m c 3 t)
    | ⟨6, _⟩ => stBlk (iblk m c 1 t)
    | ⟨7, h⟩ => Pipeline.Dat.unnamed (cfg := cfg0) ⟨7, h⟩ t
  Φ _ := Pipeline.ΦA spec0 c
  q w := Pipeline.shareOf spec0 w
  owed _ := 0

/-- Every window begins with its array as launched. -/
theorem A_eq (c : Dev nD) (w : Fin cfg0.W) : (dats m 0 c).A w = V m c (Pipeline.arrRef spec0 w) := by dsimp only [dats]
/-- What the body leaves in the staging buffer of window 0. -/
theorem after0_0 (c : Dev nD) (t : Fin cfg0.N) : (dats m 0 c).after 0 t = iblk m c 0 t := by dsimp only [dats]
/-- What the body leaves in the staging buffer of window 1. -/
theorem after0_1 (c : Dev nD) (t : Fin cfg0.N) : (dats m 0 c).after 1 t = iblk m c 1 t := by dsimp only [dats]
/-- What the body leaves in the staging buffer of window 2. -/
theorem after0_2 (c : Dev nD) (t : Fin cfg0.N) : (dats m 0 c).after 2 t = iblk m c 2 t := by dsimp only [dats]
/-- What the body leaves in the staging buffer of window 3. -/
theorem after0_3 (c : Dev nD) (t : Fin cfg0.N) : (dats m 0 c).after 3 t = iblk m c 3 t := by dsimp only [dats]
/-- What the body leaves in the staging buffer of window 5. -/
theorem after0_5 (c : Dev nD) (t : Fin cfg0.N) : (dats m 0 c).after 5 t = sbBlk (iblk m c 0 t) (iblk m c 1 t) (iblk m c 2 t) (iblk m c 3 t) := by dsimp only [dats]
/-- What the body leaves in the staging buffer of window 6. -/
theorem after0_6 (c : Dev nD) (t : Fin cfg0.N) : (dats m 0 c).after 6 t = stBlk (iblk m c 1 t) := by dsimp only [dats]
/-- The body finds in the staging buffer of window 0 its block. -/
theorem before0_0 (c : Dev nD) (t : Fin cfg0.N) (d) : (dats m 0 c).before 0 t d = iblk m c 0 t :=
  before0_0_of m (dats m 0 c) (A_eq m c 0) (after0_0 m c) t d
/-- The body finds in the staging buffer of window 1 its block. -/
theorem before0_1 (c : Dev nD) (t : Fin cfg0.N) (d) : (dats m 0 c).before 1 t d = iblk m c 1 t :=
  before0_1_of m (dats m 0 c) (A_eq m c 1) (after0_1 m c) t d
/-- The body finds in the staging buffer of window 2 its block. -/
theorem before0_2 (c : Dev nD) (t : Fin cfg0.N) (d) : (dats m 0 c).before 2 t d = iblk m c 2 t :=
  before0_2_of m (dats m 0 c) (A_eq m c 2) (after0_2 m c) t d
/-- The body finds in the staging buffer of window 3 its block. -/
theorem before0_3 (c : Dev nD) (t : Fin cfg0.N) (d) : (dats m 0 c).before 3 t d = iblk m c 3 t :=
  before0_3_of m (dats m 0 c) (A_eq m c 3) (after0_3 m c) t d

/-- What the body may use besides its windows: the three scratch buffers at some contents, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d))

set_option maxHeartbeats 2000000 in
/-- The body at any point: the inputs' staging buffers hold their blocks, the run applies, and the core owes nothing. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl, after0_0, after0_1, after0_2, after0_3, after0_5, after0_6]
  generalize iblk m c 0 t = x0
  generalize iblk m c 1 t = x1
  generalize iblk m c 2 t = x2
  generalize iblk m c 3 t = x3
  unfold owns
  iintro ⟨⟨⟨⟨%ds0, %g0, -, S0⟩, ⟨%ds1, %g1, -, S1⟩, ⟨%ds2, %g2, -, S2⟩⟩, Hr⟩, Ho, ⟨%d0, %f0, %e0, H0⟩, ⟨%d1, %f1, %e1, H1⟩, ⟨%d2, %f2, %e2, H2⟩, ⟨%d3, %f3, %e3, H3⟩, ⟨%d4, %f4, -, H4⟩, ⟨%d5, %f5, -, H5⟩, ⟨%d6, %f6, -, H6⟩, ⟨%d7, %f7, -, H7⟩⟩
  subst e0 e1 e2 e3
  iapply wp_wand $$ [H0 H1 H2 H3 H4 H5 H6 H7 S0 S1]
  · iapply ((kernelRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) f0 f1 f2 f3).2.2.2.2.2.2 Set.univ f4 f5 f6 f7 g0 g1)
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    iexact S1
  unfold Held
  iintro %_ ⟨H0, H1, H2, H3, H4, H5, H6, H7, S0, S1⟩
  isplitl [S0 S1 S2 Hr]
  · isplitl [S0 S1 S2]
    · isplitl [S0]
      · iexists _, _; isplitr; swap; · iexact S0
        ipureintro; rfl
      isplitl [S1]
      · iexists _, _; isplitr; swap; · iexact S1
        ipureintro; rfl
      iexists _, _; isplitr; swap; · iexact S2
      ipureintro; rfl
    iexact Hr
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _, _; isplitr; swap; · iexact H4
    ipureintro; rfl
  isplitl [H5]
  · iexists _; isplitr; swap; · iexact H5
    ipureintro; exact run_sb c _ _ _ _ _ _ _ _ _ _ _ _ _ _ _ _ _ _ _ _ _ _ _ _ _ _ _ _ _ _ _ _ _
  isplitl [H6]
  · iexists _; isplitr; swap; · iexact H6
    ipureintro; exact run_st c _ _ _ _ _ _ _ _ _ _ _ _ _ _ _ _ _ _ _ _ _ _ _ _ _ _ _ _ _ _ _ _ _
  iexists _, _; isplitr; swap; · iexact H7
  ipureintro; rfl

/-- The body of the pipeline at a grid point, with its arguments. -/
theorem defs₀_row (t : Fin cfg0.N) : defs₀ (F := Ideal) .tc cfg0.body (cfg0.bodyArgs t (cfg0.slots t)) = bodyAt0 t := by
  unfold defs₀; rw [Defs.onTc_tc]

/-- The library's body obligation, the forgotten results at anything. -/
theorem body_obligation (c : Dev nD) :
    BodyObligation (dats m 0 c) (defs₀ (F := Ideal)) Variants.none () Set.univ forgets0 := fun t => by
  rw [bigSep_W0, bigSep_W0, defs₀_row]
  exact triple_restated (sound_body m c t) rfl .rfl fun _ => .rfl

set_option backward.isDefEq.respectTransparency.types false in
/-- The launch: every weakly fair execution terminates, with the arrays as the proof data has them and every semaphore at zero. -/
theorem run_main :
    θ_run defs (onTc (τ := τ) (main (F := Ideal))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m ρ}

/-- An argument array after the run is the argument array at launch. -/
theorem final_args {r : PUnit × MemSt nD τ sig (Elt Ideal)}
    (h : Pipeline.RDat.FramePost (cfgs 0) (fun c => (dats m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(Pipeline.RDat.FramePost.arr_in h c 3 rfl).trans (V_main_arg0 m c),
   (Pipeline.RDat.FramePost.arr_in h c 0 rfl).trans (V_main_arg1 m c),
   (Pipeline.RDat.FramePost.arr_in h c 1 rfl).trans (V_main_arg2 m c)⟩

variable (m ρ)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => final_args h.1 c, h.2⟩) (run_main m ρ)

end Cert.QuantIdeal.Body

end
-- ==== Proof.QuantFinal.lean ====
/-
  Hand-written, untrusted. What the quantiser leaves in its arrays of scales, over the extended reals, as functions of
  its three argument arrays.
-/
module

public import proofs.«01_k».proof.Proof.QuantIdealFrame
public import Idealize.ShloMosaic.Lib.Pipeline.ValueKit

@[expose] public section

set_option maxRecDepth 16384

noncomputable section

namespace Cert.QuantIdeal.Body

open Cert.QuantIdeal Cert.QuantIdeal.Gen
open Idealize.ShloMosaic Idealize.ShloMosaic.TcCoe Idealize.SL.Sem
open Idealize.ShloMosaic.Pipeline (Dat)

/-- The array of block scales: at channel `i 0` and group `i 1`, the scale of that group's sixteen tokens in that channel. -/
def sbOf (S : FVec Ideal S16 .f32) (A : FVec Ideal S1 .f32) (X : FVec Ideal S10240x6144 .bf16) : FVec Ideal S6144x640 .fp8e4m3 :=
  fun i => gscale (A (ix1 0)) fun j => X (ix2 (Fin.ofNat 10240 (16 * (i 1).val + j.val)) (i 0)) * quarter S j

/-- A row of the scratch buffer is a scale of sixteen consecutive tokens. -/
theorem rowScale_eq (a : EReal) (V : Fin 16 → EReal) (X : FVec Ideal S2048x128 .bf16) (r : ℕ) (hr : r < 128) (l : Fin 128) :
    rowScale a V X r l = gscale a fun j => X (ix2 (Fin.ofNat 2048 (16 * r + j.val)) l) * V j := by
  unfold rowScale leaf blk
  congr 1
  funext j
  refine congrArg (fun x : EReal => x * V j) (congrArg X ?_)
  funext b
  apply Fin.ext
  have hj := j.isLt
  match b with
  | ⟨0, _⟩ =>
    show (128 * (r / 8) + (16 * (r % 8) + j.val) % 128) % 2048 = (16 * r + j.val) % 2048
    omega
  | ⟨1, _⟩ => rfl

variable (m : (ℓ : Loc nD τ sig) → Buf (Elt Ideal) ℓ) (ρ : Dev nD → PrngReg)

/-- Where the blocks of the activations and of the block scales begin at grid point `t`. -/
theorem idx_facts : ∀ t : Fin cfg0.N, win0_2.index t 0 * win0_2.size 0 = t.val / 24 * 2048 ∧ win0_2.index t 1 * win0_2.size 1 = t.val % 24 * 256
    ∧ win0_3.index t 0 * win0_3.size 0 = t.val / 24 * 2048 ∧ win0_3.index t 1 * win0_3.size 1 = t.val % 24 * 256 + 128
    ∧ win0_5.index t 0 * win0_5.size 0 = t.val % 24 * 256 ∧ win0_5.index t 1 * win0_5.size 1 = t.val / 24 * 128 :=
  (by decide +kernel : ∀ t : Fin grid0.N, _)

/-- The signs are staged whole. -/
theorem iblk0_eq (c : Dev nD) (t : Fin cfg0.N) (j : Fin 16) : iblk m c 0 t (ix1 j) = m ((c : Thread nD τ).loc main_arg1) (ix1 j) := by
  refine congrArg (m ((c : Thread nD τ).loc main_arg1)) ?_
  funext a; apply Fin.ext
  match a with
  | ⟨0, _⟩ => show 0 * 16 + 1 * j.val = j.val
              omega

/-- The tensor's largest magnitude is staged whole. -/
theorem iblk1_eq (c : Dev nD) (t : Fin cfg0.N) : iblk m c 1 t (ix1 0) = m ((c : Thread nD τ).loc main_arg2) (ix1 0) := by
  refine congrArg (m ((c : Thread nD τ).loc main_arg2)) ?_
  funext a; apply Fin.ext
  match a with
  | ⟨0, _⟩ => rfl

/-- The first plane of activations at grid point `t`. -/
theorem iblk2_eq (c : Dev nD) (t : Fin cfg0.N) (r : Fin 2048) (l : Fin 128) (R : Fin 10240) (L : Fin 6144)
    (hR : R.val = t.val / 24 * 2048 + r.val) (hL : L.val = t.val % 24 * 256 + l.val) :
    iblk m c 2 t (ix2 r l) = m ((c : Thread nD τ).loc main_arg0) (ix2 R L) := by
  obtain ⟨e0, e1, -, -, -, -⟩ := idx_facts t
  refine congrArg (m ((c : Thread nD τ).loc main_arg0)) ?_
  funext a; apply Fin.ext
  match a with
  | ⟨0, _⟩ => show win0_2.index t 0 * win0_2.size 0 + 1 * r.val = R.val
              rw [e0, hR, Nat.one_mul]
  | ⟨1, _⟩ => show win0_2.index t 1 * win0_2.size 1 + 1 * l.val = L.val
              rw [e1, hL, Nat.one_mul]

/-- The second plane of activations at grid point `t`. -/
theorem iblk3_eq (c : Dev nD) (t : Fin cfg0.N) (r : Fin 2048) (l : Fin 128) (R : Fin 10240) (L : Fin 6144)
    (hR : R.val = t.val / 24 * 2048 + r.val) (hL : L.val = t.val % 24 * 256 + 128 + l.val) :
    iblk m c 3 t (ix2 r l) = m ((c : Thread nD τ).loc main_arg0) (ix2 R L) := by
  obtain ⟨-, -, e0, e1, -, -⟩ := idx_facts t
  refine congrArg (m ((c : Thread nD τ).loc main_arg0)) ?_
  funext a; apply Fin.ext
  match a with
  | ⟨0, _⟩ => show win0_3.index t 0 * win0_3.size 0 + 1 * r.val = R.val
              rw [e0, hR, Nat.one_mul]
  | ⟨1, _⟩ => show win0_3.index t 1 * win0_3.size 1 + 1 * l.val = L.val
              rw [e1, hL, Nat.one_mul]

/-- The block of scales that grid point `t` stores, at a row and a column. -/
theorem sbBlk_eq (c : Dev nD) (t : Fin cfg0.N) (p : Fin 256) (u : Fin 128) (P : Fin 6144) (U : Fin 640)
    (hP : P.val = t.val % 24 * 256 + p.val) (hU : U.val = t.val / 24 * 128 + u.val) :
    sbBlk (iblk m c 0 t) (iblk m c 1 t) (iblk m c 2 t) (iblk m c 3 t) (ix2 p u)
      = sbOf (m ((c : Thread nD τ).loc main_arg1)) (m ((c : Thread nD τ).loc main_arg2)) (m ((c : Thread nD τ).loc main_arg0)) (ix2 P U) := by
  have ht : t.val < 120 := lt_of_lt_of_eq t.isLt N_0
  have hp := p.isLt
  have hu := u.isLt
  refine (rowScale_eq _ _ _ u.val u.isLt _).trans ?_
  unfold sbOf
  rw [iblk1_eq]
  congr 1
  funext j
  have hj := j.isLt
  refine congrArg₂ (fun x y : EReal => x * y) ?_ (congrArg (fun x : EReal => x * _) (iblk0_eq m c t j))
  by_cases h : p.val < 128
  · rw [show (if ((ix2 p u : (⟨2, ![256, 128]⟩ : Shape).Idx) 0).val < 128 then iblk m c 2 t else iblk m c 3 t) = iblk m c 2 t from if_pos h]
    refine iblk2_eq m c t _ _ _ _ ?_ ?_
    · show (16 * U.val + j.val) % 10240 = t.val / 24 * 2048 + (16 * u.val + j.val) % 2048
      omega
    · show P.val = t.val % 24 * 256 + p.val % 128
      omega
  · rw [show (if ((ix2 p u : (⟨2, ![256, 128]⟩ : Shape).Idx) 0).val < 128 then iblk m c 2 t else iblk m c 3 t) = iblk m c 3 t from if_neg h]
    refine iblk3_eq m c t _ _ _ _ ?_ ?_
    · show (16 * U.val + j.val) % 10240 = t.val / 24 * 2048 + (16 * u.val + j.val) % 2048
      omega
    · show P.val = t.val % 24 * 256 + 128 + p.val % 128
      omega

/-- After the run the array of block scales. -/
theorem final_sb (c : Dev nD) : (dats m 0 c).arrAt 5 cfg0.N
    = sbOf (m ((c : Thread nD τ).loc main_arg1)) (m ((c : Thread nD τ).loc main_arg2)) (m ((c : Thread nD τ).loc main_arg0)) := by
  refine (dats m 0 c).arrAt_eq_of_covers 5 _ (by decide +kernel) fun t hf y => ?_
  obtain ⟨-, -, -, -, e0, e1⟩ := idx_facts t
  have ht : t.val < 120 := lt_of_lt_of_eq t.isLt N_0
  obtain ⟨p, u, rfl⟩ : ∃ (p : Fin 256) (u : Fin 128), y = ix2 p u := ⟨y 0, y 1, eq_ix2 y⟩
  have hp := p.isLt
  have hu := u.isLt
  have er : ((cfg0.win 5).blk t).view.emb (ix2 p u)
      = ix2 (⟨t.val % 24 * 256 + p.val, by omega⟩ : Fin 6144) (⟨t.val / 24 * 128 + u.val, by omega⟩ : Fin 640) := by
    funext a; apply Fin.ext
    match a with
    | ⟨0, _⟩ => show win0_5.index t 0 * win0_5.size 0 + 1 * p.val = t.val % 24 * 256 + p.val
                rw [e0, Nat.one_mul]
    | ⟨1, _⟩ => show win0_5.index t 1 * win0_5.size 1 + 1 * u.val = t.val / 24 * 128 + u.val
                rw [e1, Nat.one_mul]
  refine Eq.trans ?_ (congrArg (sbOf _ _ _) er).symm
  refine Eq.trans ?_ (sbBlk_eq m c t p u _ _ rfl rfl)
  blk_simp
  refine (congrFun (after0_5 m c t) _).trans ?_
  rfl

/-- After the run the tensor's scale. -/
theorem final_st (c : Dev nD) : (dats m 0 c).arrAt 6 cfg0.N = stBlk (m ((c : Thread nD τ).loc main_arg2)) := by
  refine (dats m 0 c).arrAt_eq_of_after_last 6 (⟨119, by decide⟩ : Fin grid0.N) (by decide +kernel) _ fun j => ?_
  blk_simp
  refine (congrFun (after0_6 m c _) _).trans ?_
  exact congrArg tscale (iblk1_eq m c _)

/-- The launch with the two arrays of scales named. -/
theorem run_scales : θ_run defs (onTc (τ := τ) (main (F := Ideal))) ⟨m, fun _ => 0, ρ⟩ (fun r => ∀ c : Dev nD,
      r.2.mem ((c.tc : Thread nD τ).loc main_v0_1) = sbOf (m ((c : Thread nD τ).loc main_arg1)) (m ((c : Thread nD τ).loc main_arg2)) (m ((c : Thread nD τ).loc main_arg0))
      ∧ r.2.mem ((c.tc : Thread nD τ).loc main_v0_2) = stBlk (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(((dats m 0 c).toRForget_arrAt_iff (w := 5) (by decide) _ _).mp ((h.1 c).1 5)).trans (final_sb m c),
     (((dats m 0 c).toRForget_arrAt_iff (w := 6) (by decide) _ _).mp ((h.1 c).1 6)).trans (final_st m c),
     final_args h.1 c⟩) (run_main m ρ)

end Cert.QuantIdeal.Body

end
-- ==== Proof.QuantReference.lean ====
/-
  Hand-written, untrusted. The reference's two arrays of scales as functions of its three argument arrays, and that they
  are the arrays the quantiser leaves.
-/
module

public import proofs.«01_k».proof.Proof.QuantHadamard
public import proofs.«01_k».proof.Proof.QuantFinal
public import proofs.«01_k».proof.Proof.Gen.QuantRefIdeal.Value
public import Idealize.ShloMosaic.Lib.StableHlo.RunRead
public import Idealize.ShloMosaic.Lib.Pointwise
public import Idealize.ShloMosaic.Lib.Pipeline.ValueKit
public import Idealize.ShloMosaic.Lib.Pipeline.ReadBack
@[expose] public section

set_option maxRecDepth 16384

noncomputable section

namespace Cert.QuantRefIdeal.Scales

open Cert.QuantRefIdeal Cert.QuantRefIdeal.Gen
open Idealize.ShloMosaic Idealize.ShloMosaic.TcCoe Idealize.SL.Sem
open Cert.QuantIdeal.Body (sg hs hsum gmax gscale tscale quarter sbOf stBlk gmax_eq)

variable (m : (ℓ : Loc nD τ sig) → Buf (Elt Ideal) ℓ)

/-- The tensor's scale, as the host operations compute it. -/
def stTerm (A : FVec Ideal S1 .f32) : FVec Ideal S1 .f32 :=
  select (cmpf .ogt A (broadcastInDim S1 ![] Facts₀.bcast_S_S1 (constant (F := Ideal) S_ .f32 0x00000000#32)))
    (Host.divf A (broadcastInDim S1 ![] Facts₀.bcast_S_S1 (constant (F := Ideal) S_ .f32 0x45280000#32)))
    (broadcastInDim S1 ![] Facts₀.bcast_S_S1 (constant (F := Ideal) S_ .f32 0x3F800000#32))

/-- The region finds the tensor's scale. -/
theorem V_main_v4 (c : Dev nD) : V m c main_v4 = stTerm (m ((c : Thread nD τ).loc main_arg2)) := by
  show StableHlo.after (List.flatten [hostOps0, hostOps0_1, hostOps0_2]) (fun b => m (c, b)) (Proc.devRef .tc main_v4) = _
  simp only [hostOps0, hostOps0_1, hostOps0_2, List.flatten_cons, List.flatten_nil, List.append_nil, List.cons_append, List.nil_append]
  after_results
  rfl

/-- The Hadamard matrix, as the host operations compute it. -/
def hTerm : FVec Ideal S16x16 .f32 :=
  sitofp (F := Ideal) .f32 (subi (broadcastInDim S16x16 ![] Facts₀.bcast_S_S16x16 (constantI S_ 32 1#32))
    (muli (broadcastInDim S16x16 ![] Facts₀.bcast_S_S16x16 (constantI S_ 32 2#32))
     (andi (ctpop (andi (broadcastInDim S16x16 ![0, 1] Facts₀.bcast_S16x1_S16x16_0_1 (broadcastInDim S16x1 ![0] Facts₀.bcast_S16_S16x1_0 (iotaInDim S16 32 0)))
       (broadcastInDim S16x16 ![0, 1] Facts₀.bcast_S1x16_S16x16_0_1 (broadcastInDim S1x16 ![1] Facts₀.bcast_S16_S1x16_1 (iotaInDim S16 32 0)))))
       (broadcastInDim S16x16 ![] Facts₀.bcast_S_S16x16 (constantI S_ 32 1#32)))))

/-- The signed Hadamard matrix, times a quarter. -/
def rTerm (S : FVec Ideal S16 .f32) : FVec Ideal S16x16 .f32 :=
  mulf (mulf hTerm (broadcastInDim S16x16 ![0, 1] Facts₀.bcast_S1x16_S16x16_0_1 (broadcastInDim S1x16 ![1] Facts₀.bcast_S16_S1x16_1 S)))
    (broadcastInDim S16x16 ![] Facts₀.bcast_S_S16x16 (constant (F := Ideal) S_ .f32 0x3E800000#32))

/-- The transformed activations. -/
def zTerm (S : FVec Ideal S16 .f32) (X : FVec Ideal S10240x6144 .bf16) : FVec Ideal S640x6144x16 .f32 :=
  Host.dotGeneral (F := Ideal) (φ₁ := .f32) (φ₂ := .f32) dot_S640x16x6144_S16x16_S640x6144x16_1_1_02_0_n_n (some .fp32)
    (shapeCast S640x16x6144 (extf (F := Ideal) .f32 X Facts₀.bitsLt_bf16_f32) Facts₀.shapeCasts_S10240x6144_S640x16x6144) (rTerm S)

/-- The largest magnitude of each transformed group. -/
def aTerm (S : FVec Ideal S16 .f32) (X : FVec Ideal S10240x6144 .bf16) : FVec Ideal S6144x640 .f32 :=
  transpose S6144x640 [1, 0] (Host.reduce (FloatOps.maximumf (F := Ideal) (φ := .f32))
    (Host.absf (transpose S640x16x6144 [0, 2, 1] (zTerm S X) Facts₀.transposes_S640x6144x16_S640x16x6144_0_2_1))
    (constant (F := Ideal) S_ .f32 0xFF800000#32) Facts₀.reducesTo_S640x16x6144_S640x6144_d1 Facts₀.h_S_) Facts₀.transposes_S640x6144_S6144x640_1_0

/-- The region finds the largest magnitudes. -/
theorem V_main_v30 (c : Dev nD) : V m c main_v30 = aTerm (m ((c : Thread nD τ).loc main_arg1)) (m ((c : Thread nD τ).loc main_arg0)) := by
  show StableHlo.after (List.flatten [hostOps0, hostOps0_1, hostOps0_2]) (fun b => m (c, b)) (Proc.devRef .tc main_v30) = _
  simp only [hostOps0, hostOps0_1, hostOps0_2, List.flatten_cons, List.flatten_nil, List.append_nil, List.cons_append, List.nil_append]
  after_results
  rfl

/-- The tensor's scale is the kernel's. -/
theorem stTerm_eq (A : FVec Ideal S1 .f32) : stTerm A = stBlk A := by
  funext i
  obtain ⟨i0, rfl⟩ : ∃ i0 : Fin 1, i = ix1 i0 := ⟨i 0, eq_ix1 i⟩
  obtain rfl : i0 = 0 := Subsingleton.elim _ _
  refine Eq.trans ?_ (show (if 0 < A (ix1 0) then Ideal.div (A (ix1 0)) (Ideal.ofBits .f32 1160249344#32) else 1 : EReal) = _ from rfl)
  unfold stTerm
  pointwise []

/-- The parity of the bits two numbers share, as the host operations compute the sign it stands for. -/
theorem sign_word : ∀ i j : Fin 16, IntOp.subi 1#32 (IntOp.muli 2#32 (IntOp.andi (IntOp.ctpop (IntOp.andi (BitVec.ofNat 32 i.val) (BitVec.ofNat 32 j.val))) 1#32))
    = bif hs (i.val.testBit 0) (i.val.testBit 1) (i.val.testBit 2) (i.val.testBit 3) j then 4294967295#32 else 1#32 := by
  decide +kernel

/-- One entry of the Hadamard matrix. -/
theorem h_apply (i j : Fin 16) : hTerm (ix2 i j) = sg (hs (i.val.testBit 0) (i.val.testBit 1) (i.val.testBit 2) (i.val.testBit 3) j) 1 := by
  have e : ∀ b : Bool, FloatOps.sitofp (F := Ideal) .f32 (bif b then 4294967295#32 else 1#32 : BitVec 32) = sg b (1 : EReal) := by
    intro b
    cases b
    · show (((1#32 : BitVec 32).toInt : ℝ) : EReal) = 1
      simp
    · show (((4294967295#32 : BitVec 32).toInt : ℝ) : EReal) = -1
      simp
  refine Eq.trans ?_ (e _)
  rw [← sign_word]
  unfold hTerm
  pointwise []

/-- One entry of the signed matrix. -/
theorem r_apply (S : FVec Ideal S16 .f32) (i j : Fin 16) : rTerm S (ix2 i j)
    = sg (hs (i.val.testBit 0) (i.val.testBit 1) (i.val.testBit 2) (i.val.testBit 3) j) (quarter S j) := by
  have e : ∀ b : Bool, sg b 1 * S (ix1 j) * Ideal.ofBits .f32 1048576000#32 = sg b (quarter S j) := by
    intro b
    cases b
    · show (1 : EReal) * S (ix1 j) * _ = S (ix1 j) * _
      rw [one_mul]
    · show (-1 : EReal) * S (ix1 j) * _ = -(S (ix1 j) * _)
      rw [EReal.neg_mul, one_mul, EReal.neg_mul]
  rw [← e, ← h_apply]
  unfold rTerm
  pointwise []

/-- One transformed value. -/
theorem z_apply (S : FVec Ideal S16 .f32) (X : FVec Ideal S10240x6144 .bf16) (g : Fin 640) (l : Fin 6144) (i : Fin 16) :
    zTerm S X (ix3 g l i) = hsum (fun j => X (ix2 (Fin.ofNat 10240 (16 * g.val + j.val)) l) * quarter S j)
      (i.val.testBit 0) (i.val.testBit 1) (i.val.testBit 2) (i.val.testBit 3) := by
  have e : ∀ (b : Bool) (x y : EReal), x * sg b y = sg b (x * y) := by
    intro b x y
    cases b
    · rfl
    · exact mul_neg x y
  have hz : zTerm S X (ix3 g l i) = ∑ j : Fin 16, X (ix2 (⟨g.val * 16 + j.val, by omega⟩ : Fin 10240) l) * rTerm S (ix2 i j) := by
    unfold zTerm
    pointwise []
  rw [hz]
  unfold hsum
  refine Finset.sum_congr rfl fun j _ => ?_
  rw [r_apply, e]
  have hx : (⟨g.val * 16 + j.val, by omega⟩ : Fin 10240) = Fin.ofNat 10240 (16 * g.val + j.val) := by
    apply Fin.ext
    show g.val * 16 + j.val = (16 * g.val + j.val) % 10240
    omega
  rw [hx]

/-- The largest magnitude of one transformed group. -/
theorem a_apply (S : FVec Ideal S16 .f32) (X : FVec Ideal S10240x6144 .bf16) (g : Fin 640) (l : Fin 6144) :
    aTerm S X (ix2 l g) = gmax fun j => X (ix2 (Fin.ofNat 10240 (16 * g.val + j.val)) l) * quarter S j := by
  have ha : aTerm S X (ix2 l g) = Finset.fold max (Ideal.ofBits .f32 4286578688#32) (fun i => FloatOps.absf (F := Ideal) (φ := .f32) (zTerm S X (ix3 g l i))) Finset.univ := by
    unfold aTerm
    pointwise []
  have hb : Ideal.ofBits .f32 4286578688#32 = (⊥ : EReal) := by
    simp [Ideal.ofBits, Ideal.ieee]
  rw [ha, hb, gmax_eq]
  simp only [z_apply]
  rfl

/-- One scale, as the reference's gridless call computes it. -/
theorem pay_apply (v : Vec Ideal S6144x640 .f32) (s : EReal) (g : Fin 640) (l : Fin 6144) :
    k0_pay1 (F := Ideal) v s (ix2 l g) = min (Ideal.div (v (ix2 l g)) (Ideal.ofBits .f32 1086324736#32 * s)) (Ideal.ofBits .f32 1138753536#32) := by
  unfold k0_pay1
  pointwise []

/-- The reference's block scales are the kernel's. -/
theorem sb_eq (S : FVec Ideal S16 .f32) (A : FVec Ideal S1 .f32) (X : FVec Ideal S10240x6144 .bf16) :
    k0_pay1 (F := Ideal) (aTerm S X) (stTerm A (ix1 0)) = sbOf S A X := by
  funext y
  obtain ⟨l, g, rfl⟩ : ∃ (l : Fin 6144) (g : Fin 640), y = ix2 l g := ⟨y 0, y 1, eq_ix2 y⟩
  refine (pay_apply _ _ g l).trans ?_
  rw [a_apply, stTerm_eq]
  rfl

/-- Reading the whole of the first input's array through its one block gives the array. -/
theorem read_blk0 (t : Fin cfg0.N) (X : FVec Ideal S6144x640 .f32) : ((cfg0.win 0).blk t).view.read (Elt Ideal) X = X := by
  funext y
  refine congrArg X ?_
  funext a; apply Fin.ext
  match a with
  | ⟨0, _⟩ => show 0 * 6144 + 1 * (y 0).val = (y 0).val
              omega
  | ⟨1, _⟩ => show 0 * 640 + 1 * (y 1).val = (y 1).val
              omega

/-- Reading the whole of the second input's array through its one block gives the array. -/
theorem read_blk1 (t : Fin cfg0.N) (A : FVec Ideal S1 .f32) : ((cfg0.win 1).blk t).view.read (Elt Ideal) A = A := by
  funext y
  refine congrArg A ?_
  funext a; apply Fin.ext
  match a with
  | ⟨0, _⟩ => show 0 * 1 + 1 * (y 0).val = (y 0).val
              omega

/-- The gridless call's array after the run, from the arrays its region finds. -/
theorem final_sb (c : Dev nD) : (dats m 0 c).arrAt 2 cfg0.N = k0_pay1 (V m c main_v30) (V m c main_v4 (ix1 0)) := by
  have e0 : ∀ t : Fin cfg0.N, iblk m c 0 t = V m c main_v30 := fun t => read_blk0 t (V m c main_v30)
  have e1 : ∀ t : Fin cfg0.N, iblk m c 1 t = V m c main_v4 := fun t => read_blk1 t (V m c main_v4)
  generalize V m c main_v30 = X at e0 ⊢
  generalize V m c main_v4 = A at e1 ⊢
  refine (dats m 0 c).arrAt_eq_of_after_last 2 (⟨0, by decide⟩ : Fin grid0.N) (by decide +kernel) _ fun j => ?_
  blk_simp
  refine (congrFun (after0_2 m c _) _).trans ?_
  unfold outsAt0
  frame_out
  simp only [read_unread_whole]
  refine (congrArg₂ (fun v a => k0_pay1 (F := Ideal) v a _) (e0 _) ((congrFun (e1 _) _).trans (congrArg A ?_))).trans rfl
  funext a; apply Fin.ext
  match a with
  | ⟨0, _⟩ => rfl

/-- The launch with the two arrays of scales named. -/
theorem run_scales (ρ : Dev nD → PrngReg) : θ_run defs (onTc (τ := τ) (main (F := Ideal))) ⟨m, fun _ => 0, ρ⟩ (fun r => ∀ c : Dev nD,
      r.2.mem ((c.tc : Thread nD τ).loc main_v31) = sbOf (m ((c : Thread nD τ).loc main_arg1)) (m ((c : Thread nD τ).loc main_arg2)) (m ((c : Thread nD τ).loc main_arg0))
      ∧ r.2.mem ((c.tc : Thread nD τ).loc main_v4) = stBlk (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(Value.post2 m r h c).trans ((final_sb m c).trans (by
        rw [V_main_v30, V_main_v4]
        exact sb_eq _ _ _)),
      (((h c).1 1).trans (((dats m 0 c).arrAt_in 1 rfl cfg0.N).trans (A_eq m c 1))).trans ((V_main_v4 m c).trans (stTerm_eq _)),
      Value.kept_main_arg0 m r h c, Value.kept_main_arg1 m r h c, Value.kept_main_arg2 m r h c⟩)
    (run_main m ρ)

end Cert.QuantRefIdeal.Scales

end
-- ==== Proof.DyRun.lean ====
/-
  Hand-written, untrusted. One run of the body of `Dy`'s call: the reads of the signs and of the maximum, the two
  loops over the units of a channel plane (by the generated loop invariants), and the two stores of the block scales.
-/
module

public import proofs.«01_k».proof.Proof.Gen.Dy.Frame
public import proofs.«01_k».proof.Proof.Gen.Dy.Loops
public import proofs.«01_k».proof.Proof.Gen.Dy.Skeleton
public import Idealize.ShloMosaic.Lib.Pipeline.Frame
public import Idealize.ShloMosaic.Lib.Tactic

@[expose] public section

set_option maxRecDepth 16384

noncomputable section

namespace Cert.Dy.Body

open Cert.Dy Cert.Dy.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [BitOps F]

local notation "𝕄" => MT nD τ sig Unit (Elt F) ℕ (UR sig nD τ) ℕ

/-- What the body holds: the six inputs at their contents, what it writes at some contents each. -/
abbrev Held (c : Dev nD) (arg2 : Memref sig .tc .smem S16 .f32) (arg3 : Memref sig .tc .smem S1 .f32) (arg4 : Memref sig .tc .vmem S2048x128 .bf16) (arg5 : Memref sig .tc .vmem S2048x128 .bf16) (arg6 : Memref sig .tc .vmem S2048x128 .i8) (arg7 : Memref sig .tc .vmem S2048x128 .i8) (arg8 : Memref sig .tc .vmem S256x1024 .i8) (arg9 : Memref sig .tc .vmem S256x128 .fp8e4m3) (arg10 : Memref sig .tc .smem S1 .f32) (arg11 : Memref sig .tc .vmem S256x2048 .bf16) (arg12 : Memref sig .tc .vmem S128x128 .f32) (arg13 : Memref sig .tc .vmem S128x128 .i32) (arg14 : Memref sig .tc .vmem S64x128 .i32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

set_option maxHeartbeats 4000000 in
/-- The body run once: the pieces it writes into each operand, as functions of the contents found in the operands it
    writes, with the triple that says so. -/
@[irreducible] def kernelRun (c : Dev nD) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .i8) (harg6 : arg6.IsWhole) (arg7 : Memref sig .tc .vmem S2048x128 .i8) (harg7 : arg7.IsWhole) (arg8 : Memref sig .tc .vmem S256x1024 .i8) (harg8 : arg8.IsWhole) (arg9 : Memref sig .tc .vmem S256x128 .fp8e4m3) (harg9 : arg9.IsWhole) (arg10 : Memref sig .tc .smem S1 .f32) (harg10 : arg10.IsWhole) (arg11 : Memref sig .tc .vmem S256x2048 .bf16) (harg11 : arg11.IsWhole) (arg12 : Memref sig .tc .vmem S128x128 .f32) (harg12 : arg12.IsWhole) (arg13 : Memref sig .tc .vmem S128x128 .i32) (harg13 : arg13.IsWhole) (arg14 : Memref sig .tc .vmem S64x128 .i32) (harg14 : arg14.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) :
    Σ' (L_arg8 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x1024 .i8))) (L_arg9 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .fp8e4m3))) (L_arg10 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg10.view.ty)) (L_arg11 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x2048 .bf16))) (L_arg12 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S128x128 .f32))) (L_arg13 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S128x128 .i32))), { L_arg14 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S64x128 .i32)) //
      ∀ (E : Set ℕ) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
        Held (F := F) c arg2 arg3 arg4 arg5 arg6 arg7 arg8 arg9 arg10 arg11 arg12 arg13 arg14 X_arg2 X_arg3 X_arg4 X_arg5 X_arg6 X_arg7 f_arg8 f_arg9 f_arg10 f_arg11 f_arg12 f_arg13 f_arg14
        ⊢ wp frame (wpE (defs₀ (F := F)) Variants.none (c : Thread nD τ) none) E (cc0_quantise_dy i arg2 harg2 arg3 harg3 arg4 harg4 arg5 harg5 arg6 harg6 arg7 harg7 arg8 harg8 arg9 harg9 arg10 harg10 arg11 harg11 arg12 harg12 arg13 harg13 arg14 harg14)
          (fun _ => Held (F := F) c arg2 arg3 arg4 arg5 arg6 arg7 arg8 arg9 arg10 arg11 arg12 arg13 arg14 X_arg2 X_arg3 X_arg4 X_arg5 X_arg6 X_arg7 (arg8.view.writes (Elt F) f_arg8 (L_arg8 f_arg8 f_arg9 f_arg10 f_arg11 f_arg12 f_arg13 f_arg14)) (arg9.view.writes (Elt F) f_arg9 (L_arg9 f_arg8 f_arg9 f_arg10 f_arg11 f_arg12 f_arg13 f_arg14)) (L_arg10 f_arg8 f_arg9 f_arg10 f_arg11 f_arg12 f_arg13 f_arg14) (arg11.view.writes (Elt F) f_arg11 (L_arg11 f_arg8 f_arg9 f_arg10 f_arg11 f_arg12 f_arg13 f_arg14)) (arg12.view.writes (Elt F) f_arg12 (L_arg12 f_arg8 f_arg9 f_arg10 f_arg11 f_arg12 f_arg13 f_arg14)) (arg13.view.writes (Elt F) f_arg13 (L_arg13 f_arg8 f_arg9 f_arg10 f_arg11 f_arg12 f_arg13 f_arg14)) (arg14.view.writes (Elt F) f_arg14 (L_arg14 f_arg8 f_arg9 f_arg10 f_arg11 f_arg12 f_arg13 f_arg14))) } := by
  refine ⟨?_, ?_, ?_, ?_, ?_, ?_, ?_, fun E f_arg8 f_arg9 f_arg10 f_arg11 f_arg12 f_arg13 f_arg14 => ?run⟩
  case run =>
    simp only [cc0_quantise_dy_eq_skeleton]; unfold cc0_quantise_dy_skel
    iintro ⟨HR_arg2, HR_arg3, HR_arg4, HR_arg5, HR_arg6, HR_arg7, HW_arg8, HW_arg9, HW_arg10, HW_arg11, HW_arg12, HW_arg13, HW_arg14⟩
    sl_exec
    sl_step
    sl_close

end Cert.Dy.Body

end
-- ==== Proof.DyFrame.lean ====
/-
  Hand-written, untrusted. The frame of `Dy`: the four results of its call are forgotten, the four arguments end as they were, and every
  semaphore is back at zero.
-/
module

public import proofs.«01_k».proof.Proof.Gen.Dy.Frame
public import proofs.«01_k».proof.Proof.DyRun
public import Idealize.ShloMosaic.Lib.Pipeline.Frame
public import Idealize.ShloMosaic.Lib.Pipeline.FrameBody
public import Idealize.ShloMosaic.Lib.Tactic

@[expose] public section

set_option maxRecDepth 16384

noncomputable section

namespace Cert.Dy.Body

open Cert.Dy Cert.Dy.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The results nothing is said of. -/
def forgets0 : Fin 10 → Bool := fun w => 6 ≤ w.val

/-- The proof data on core `c`: each array as launched; an input's staging buffer left holding its block; the results
    unnamed; the scratch at anything; an array that several inputs read held in shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

/-- Every window begins with its array as launched. -/
theorem A_eq (c : Dev nD) (w : Fin cfg0.W) : (dats (F := F) m 0 c).A w = V m c (Pipeline.arrRef spec0 w) := by dsimp only [dats]
/-- What the body leaves in the staging buffer of window 0. -/
theorem after0_0 (c : Dev nD) (t : Fin cfg0.N) : (dats m 0 c).after 0 t = iblk m c 0 t := by dsimp only [dats]
/-- What the body leaves in the staging buffer of window 1. -/
theorem after0_1 (c : Dev nD) (t : Fin cfg0.N) : (dats m 0 c).after 1 t = iblk m c 1 t := by dsimp only [dats]
/-- What the body leaves in the staging buffer of window 2. -/
theorem after0_2 (c : Dev nD) (t : Fin cfg0.N) : (dats m 0 c).after 2 t = iblk m c 2 t := by dsimp only [dats]
/-- What the body leaves in the staging buffer of window 3. -/
theorem after0_3 (c : Dev nD) (t : Fin cfg0.N) : (dats m 0 c).after 3 t = iblk m c 3 t := by dsimp only [dats]
/-- What the body leaves in the staging buffer of window 4. -/
theorem after0_4 (c : Dev nD) (t : Fin cfg0.N) : (dats m 0 c).after 4 t = iblk m c 4 t := by dsimp only [dats]
/-- What the body leaves in the staging buffer of window 5. -/
theorem after0_5 (c : Dev nD) (t : Fin cfg0.N) : (dats m 0 c).after 5 t = iblk m c 5 t := by dsimp only [dats]
/-- The body finds in the staging buffer of window 0 its block. -/
theorem before0_0 (c : Dev nD) (t : Fin cfg0.N) (d) : (dats m 0 c).before 0 t d = iblk m c 0 t :=
  before0_0_of m (dats m 0 c) (A_eq m c 0) (after0_0 m c) t d
/-- The body finds in the staging buffer of window 1 its block. -/
theorem before0_1 (c : Dev nD) (t : Fin cfg0.N) (d) : (dats m 0 c).before 1 t d = iblk m c 1 t :=
  before0_1_of m (dats m 0 c) (A_eq m c 1) (after0_1 m c) t d
/-- The body finds in the staging buffer of window 2 its block. -/
theorem before0_2 (c : Dev nD) (t : Fin cfg0.N) (d) : (dats m 0 c).before 2 t d = iblk m c 2 t :=
  before0_2_of m (dats m 0 c) (A_eq m c 2) (after0_2 m c) t d
/-- The body finds in the staging buffer of window 3 its block. -/
theorem before0_3 (c : Dev nD) (t : Fin cfg0.N) (d) : (dats m 0 c).before 3 t d = iblk m c 3 t :=
  before0_3_of m (dats m 0 c) (A_eq m c 3) (after0_3 m c) t d
/-- The body finds in the staging buffer of window 4 its block. -/
theorem before0_4 (c : Dev nD) (t : Fin cfg0.N) (d) : (dats m 0 c).before 4 t d = iblk m c 4 t :=
  before0_4_of m (dats m 0 c) (A_eq m c 4) (after0_4 m c) t d
/-- The body finds in the staging buffer of window 5 its block. -/
theorem before0_5 (c : Dev nD) (t : Fin cfg0.N) (d) : (dats m 0 c).before 5 t d = iblk m c 5 t :=
  before0_5_of m (dats m 0 c) (A_eq m c 5) (after0_5 m c) t d

/-- What the body may use besides its windows: the three scratch buffers at some contents, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

set_option maxHeartbeats 2000000 in
/-- The body at any point: the inputs' staging buffers hold their blocks, the run applies, and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl, after0_0, after0_1, after0_2, after0_3, after0_4, after0_5]
  generalize iblk m c 0 t = x0
  generalize iblk m c 1 t = x1
  generalize iblk m c 2 t = x2
  generalize iblk m c 3 t = x3
  generalize iblk m c 4 t = x4
  generalize iblk m c 5 t = x5
  unfold owns
  iintro ⟨⟨⟨⟨%ds0, %g0, -, S0⟩, ⟨%ds1, %g1, -, S1⟩, ⟨%ds2, %g2, -, S2⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩, ⟨%d7, %f7, -, H7⟩, ⟨%d8, %f8, -, H8⟩, ⟨%d9, %f9, -, H9⟩⟩
  subst e0 e1 e2 e3 e4 e5
  iapply wp_wand $$ [H0 H1 H2 H3 H4 H5 H6 H7 H8 H9 S0 S1 S2]
  · iapply ((kernelRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) f0 f1 f2 f3 f4 f5).2.2.2.2.2.2.2 Set.univ f6 f7 f8 f9 g0 g1 g2)
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    iexact S2
  unfold Held
  iintro %_ ⟨H0, H1, H2, H3, H4, H5, H6, H7, H8, H9, S0, S1, S2⟩
  isplitl [S0 S1 S2 Hr]
  · isplitl [S0 S1 S2]
    · isplitl [S0]
      · iexists _, _; isplitr; swap; · iexact S0
        ipureintro; rfl
      isplitl [S1]
      · iexists _, _; isplitr; swap; · iexact S1
        ipureintro; rfl
      iexists _, _; isplitr; swap; · iexact S2
      ipureintro; rfl
    iexact Hr
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

/-- The body of the pipeline at a grid point, with its arguments. -/
theorem defs₀_row (t : Fin cfg0.N) : defs₀ (F := F) .tc cfg0.body (cfg0.bodyArgs t (cfg0.slots t)) = bodyAt0 t := by
  unfold defs₀; rw [Defs.onTc_tc]

/-- The library's body obligation, the forgotten results at anything. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every weakly fair execution terminates, with the arrays as the proof data has them and every semaphore at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m ρ}

/-- An argument array after the run is the argument array at launch. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h c 3 rfl).trans (V_main_arg0 m c),
   (Pipeline.RDat.FramePost.arr_in h c 5 rfl).trans (V_main_arg1 m c),
   (Pipeline.RDat.FramePost.arr_in h c 0 rfl).trans (V_main_arg2 m c),
   (Pipeline.RDat.FramePost.arr_in h c 1 rfl).trans (V_main_arg3 m c)⟩

variable (m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => final_args h.1 c, h.2⟩) (run_main m ρ)

end Cert.Dy.Body

end
-- ==== Proof.DyIdealRun.lean ====
/-
  Hand-written, untrusted. One run of the body of `DyIdeal`'s call: the reads of the signs and of the maximum, the two
  loops over the units of a channel plane (by the generated loop invariants), and the two stores of the block scales.
-/
module

public import proofs.«01_k».proof.Proof.Gen.DyIdeal.Frame
public import proofs.«01_k».proof.Proof.Gen.DyIdeal.Loops
public import proofs.«01_k».proof.Proof.Gen.DyIdeal.Skeleton
public import Idealize.ShloMosaic.Lib.Pipeline.Frame
public import Idealize.ShloMosaic.Lib.Tactic

@[expose] public section

set_option maxRecDepth 16384

noncomputable section

namespace Cert.DyIdeal.Body

open Cert.DyIdeal Cert.DyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body holds: the six inputs at their contents, what it writes at some contents each. -/
abbrev Held (c : Dev nD) (arg2 : Memref sig .tc .smem S16 .f32) (arg3 : Memref sig .tc .smem S1 .f32) (arg4 : Memref sig .tc .vmem S2048x128 .bf16) (arg5 : Memref sig .tc .vmem S2048x128 .bf16) (arg6 : Memref sig .tc .vmem S2048x128 .i8) (arg7 : Memref sig .tc .vmem S2048x128 .i8) (arg8 : Memref sig .tc .vmem S256x1024 .i8) (arg9 : Memref sig .tc .vmem S256x128 .fp8e4m3) (arg10 : Memref sig .tc .smem S1 .f32) (arg11 : Memref sig .tc .vmem S256x2048 .bf16) (arg12 : Memref sig .tc .vmem S128x128 .f32) (arg13 : Memref sig .tc .vmem S128x2x128 .bf16) (arg14 : Memref sig .tc .vmem S64x128 .i32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

set_option maxHeartbeats 4000000 in
/-- The body run once: the pieces it writes into each operand, as functions of the contents found in the operands it
    writes, with the triple that says so. -/
@[irreducible] def kernelRun (c : Dev nD) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .i8) (harg6 : arg6.IsWhole) (arg7 : Memref sig .tc .vmem S2048x128 .i8) (harg7 : arg7.IsWhole) (arg8 : Memref sig .tc .vmem S256x1024 .i8) (harg8 : arg8.IsWhole) (arg9 : Memref sig .tc .vmem S256x128 .fp8e4m3) (harg9 : arg9.IsWhole) (arg10 : Memref sig .tc .smem S1 .f32) (harg10 : arg10.IsWhole) (arg11 : Memref sig .tc .vmem S256x2048 .bf16) (harg11 : arg11.IsWhole) (arg12 : Memref sig .tc .vmem S128x128 .f32) (harg12 : arg12.IsWhole) (arg13 : Memref sig .tc .vmem S128x2x128 .bf16) (harg13 : arg13.IsWhole) (arg14 : Memref sig .tc .vmem S64x128 .i32) (harg14 : arg14.IsWhole)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) :
    Σ' (L_arg8 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x1024 .i8))) (L_arg9 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x128 .fp8e4m3))) (L_arg10 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg10.view.ty)) (L_arg11 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x2048 .bf16))) (L_arg12 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S128x128 .f32))) (L_arg13 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S128x2x128 .bf16))), { L_arg14 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S64x128 .i32)) //
      ∀ (E : Set ℕ) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
        Held (F := F) c arg2 arg3 arg4 arg5 arg6 arg7 arg8 arg9 arg10 arg11 arg12 arg13 arg14 X_arg2 X_arg3 X_arg4 X_arg5 X_arg6 X_arg7 f_arg8 f_arg9 f_arg10 f_arg11 f_arg12 f_arg13 f_arg14
        ⊢ wp frame (wpE (defs₀ (F := F)) Variants.none (c : Thread nD τ) none) E (cc0_quantise_dy i arg2 harg2 arg3 harg3 arg4 harg4 arg5 harg5 arg6 harg6 arg7 harg7 arg8 harg8 arg9 harg9 arg10 harg10 arg11 harg11 arg12 harg12 arg13 harg13 arg14 harg14)
          (fun _ => Held (F := F) c arg2 arg3 arg4 arg5 arg6 arg7 arg8 arg9 arg10 arg11 arg12 arg13 arg14 X_arg2 X_arg3 X_arg4 X_arg5 X_arg6 X_arg7 (arg8.view.writes (Elt F) f_arg8 (L_arg8 f_arg8 f_arg9 f_arg10 f_arg11 f_arg12 f_arg13 f_arg14)) (arg9.view.writes (Elt F) f_arg9 (L_arg9 f_arg8 f_arg9 f_arg10 f_arg11 f_arg12 f_arg13 f_arg14)) (L_arg10 f_arg8 f_arg9 f_arg10 f_arg11 f_arg12 f_arg13 f_arg14) (arg11.view.writes (Elt F) f_arg11 (L_arg11 f_arg8 f_arg9 f_arg10 f_arg11 f_arg12 f_arg13 f_arg14)) (arg12.view.writes (Elt F) f_arg12 (L_arg12 f_arg8 f_arg9 f_arg10 f_arg11 f_arg12 f_arg13 f_arg14)) (arg13.view.writes (Elt F) f_arg13 (L_arg13 f_arg8 f_arg9 f_arg10 f_arg11 f_arg12 f_arg13 f_arg14)) (arg14.view.writes (Elt F) f_arg14 (L_arg14 f_arg8 f_arg9 f_arg10 f_arg11 f_arg12 f_arg13 f_arg14))) } := by
  refine ⟨?_, ?_, ?_, ?_, ?_, ?_, ?_, fun E f_arg8 f_arg9 f_arg10 f_arg11 f_arg12 f_arg13 f_arg14 => ?run⟩
  case run =>
    simp only [cc0_quantise_dy_eq_skeleton]; unfold cc0_quantise_dy_skel
    iintro ⟨HR_arg2, HR_arg3, HR_arg4, HR_arg5, HR_arg6, HR_arg7, HW_arg8, HW_arg9, HW_arg10, HW_arg11, HW_arg12, HW_arg13, HW_arg14⟩
    sl_exec
    sl_step
    sl_close

end Cert.DyIdeal.Body

end
-- ==== Proof.DyUnits.lean ====
/-
  Hand-written, untrusted. One unit of the quantiser of dy, 128 tokens of 128 channels: the words it reads back from
  scratch, and the scale it computes for each group. What a group's scale is, and the reads of packed words, are those of
  the quantiser of x.
-/
module

public import proofs.«01_k».proof.Proof.QuantHadamard
public import proofs.«01_k».proof.Proof.Gen.DyIdeal.Loops

@[expose] public section

set_option maxRecDepth 16384
set_option maxHeartbeats 4000000

noncomputable section

namespace Cert.DyIdeal.Body

open Cert.DyIdeal Cert.DyIdeal.Gen Cert.QuantIdeal.Body
open Idealize.ShloMosaic Idealize.ShloMosaic.TcCoe Idealize.ShloMosaic.Tactic

/-- The first token row of a half-trip of loop 1. -/
theorem off1_eq : ∀ (k : Fin k0_t1_loop.trips) (h : Fin 2) (a : Fin 2), k0_off1 k (BitVec.ofNat 32 h.val) a = ![128 * (2 * k.val + h.val), 0] a := by
  decide +kernel

/-- The first scale row of a half-trip of loop 1. -/
theorem off2_eq : ∀ (k : Fin k0_t1_loop.trips) (h : Fin 2) (a : Fin 2), k0_off2 k (BitVec.ofNat 32 h.val) a = ![8 * (2 * k.val + h.val), 0] a := by
  decide +kernel

/-- The first token row of a half-trip of loop 2. -/
theorem off5_eq : ∀ (k : Fin k0_t2_loop.trips) (h : Fin 2) (a : Fin 2), k0_off5 k (BitVec.ofNat 32 h.val) a = ![128 * (2 * k.val + h.val), 0] a := by
  decide +kernel

/-- The first scale row of a half-trip of loop 2. -/
theorem off6_eq : ∀ (k : Fin k0_t2_loop.trips) (h : Fin 2) (a : Fin 2), k0_off6 k (BitVec.ofNat 32 h.val) a = ![8 * (2 * k.val + h.val), 0] a := by
  decide +kernel

/-- The eight strided reads of the first unit of a trip of loop 1 are the eight classes of rows of its block. -/
theorem raws_t1_h0 (arg4 : Memref sig .tc .vmem S2048x128 .bf16) (arg13 : Memref sig .tc .vmem S128x2x128 .bf16) (X_arg4 : BufTy.Contents (Elt Ideal) arg4.view.ty) (k : Fin k0_t1_loop.trips) :
    trip_k0_t1.sl.v70_raw (F := Ideal) arg4 arg13 X_arg4 k = rawVec (blk (arg4.view.read (Elt Ideal) X_arg4) (2 * k.val + 0)) 0 ∧
    trip_k0_t1.sl.v71_raw (F := Ideal) arg4 arg13 X_arg4 k = rawVec (blk (arg4.view.read (Elt Ideal) X_arg4) (2 * k.val + 0)) 1 ∧
    trip_k0_t1.sl.v72_raw (F := Ideal) arg4 arg13 X_arg4 k = rawVec (blk (arg4.view.read (Elt Ideal) X_arg4) (2 * k.val + 0)) 2 ∧
    trip_k0_t1.sl.v73_raw (F := Ideal) arg4 arg13 X_arg4 k = rawVec (blk (arg4.view.read (Elt Ideal) X_arg4) (2 * k.val + 0)) 3 ∧
    trip_k0_t1.sl.v74_raw (F := Ideal) arg4 arg13 X_arg4 k = rawVec (blk (arg4.view.read (Elt Ideal) X_arg4) (2 * k.val + 0)) 4 ∧
    trip_k0_t1.sl.v75_raw (F := Ideal) arg4 arg13 X_arg4 k = rawVec (blk (arg4.view.read (Elt Ideal) X_arg4) (2 * k.val + 0)) 5 ∧
    trip_k0_t1.sl.v76_raw (F := Ideal) arg4 arg13 X_arg4 k = rawVec (blk (arg4.view.read (Elt Ideal) X_arg4) (2 * k.val + 0)) 6 ∧
    trip_k0_t1.sl.v77_raw (F := Ideal) arg4 arg13 X_arg4 k = rawVec (blk (arg4.view.read (Elt Ideal) X_arg4) (2 * k.val + 0)) 7 := by
  have hk : k.val < 8 := k.isLt
  refine ⟨?_, ?_, ?_, ?_, ?_, ?_, ?_, ?_⟩
  all_goals
    delta trip_k0_t1.sl.v70_raw trip_k0_t1.sl.v71_raw trip_k0_t1.sl.v72_raw trip_k0_t1.sl.v73_raw trip_k0_t1.sl.v74_raw trip_k0_t1.sl.v75_raw trip_k0_t1.sl.v76_raw trip_k0_t1.sl.v77_raw trip_k0_t1.sl.HW_arg13_1 trip_k0_t1.sl.k0_w1 trip_k0_t1.sl.v66_lo trip_k0_t1.sl.v66_hi
    rw [blk_read _ _ (k0_off1 k 0#32) _ (2 * k.val + 0) (by omega) (fun a => off1_eq k 0 a)]
    exact readCov_strided (base := 0) _ _ _ _ (by decide) _ (by decide) _ _ _ (by omega)

/-- The scales that the first unit of a trip of loop 1 computes are those of its groups. -/
theorem unit_t1_h0 (arg4 : Memref sig .tc .vmem S2048x128 .bf16) (arg13 : Memref sig .tc .vmem S128x2x128 .bf16) (v1 v3 v5 v7 v9 v11 v13 v15 v17 v19 v21 v23 v25 v27 v28 v30 v32 : Ideal .f32) (X_arg4 : BufTy.Contents (Elt Ideal) arg4.view.ty) (k : Fin k0_t1_loop.trips) (s : Fin 8) (l : Fin 128) :
    (k0_pay217 (trip_k0_t1.sl.r_48 (F := Ideal) arg4 arg13 v1 v3 v5 v7 v9 v11 v13 v15 v17 v19 v21 v23 v25 v27 v28 v30 v32 X_arg4 k)) (ix2 s l)
      = gscale v32 (leaf (blk (arg4.view.read (Elt Ideal) X_arg4) (2 * k.val + 0)) (sgnv v1 v3 v5 v7 v9 v11 v13 v15 v17 v19 v21 v23 v25 v27 v28 v30) s l) := by
  obtain ⟨h0, h1, h2, h3, h4, h5, h6, h7⟩ := raws_t1_h0 arg4 arg13 X_arg4 k
  delta trip_k0_t1.sl.v73_hi trip_k0_t1.sl.v72_hi trip_k0_t1.sl.r_43 trip_k0_t1.sl.v74_lo trip_k0_t1.sl.v70_lo trip_k0_t1.sl.r_38 trip_k0_t1.sl.r_42 trip_k0_t1.sl.v75_hi trip_k0_t1.sl.r_5 trip_k0_t1.sl.r_24 trip_k0_t1.sl.r_12 trip_k0_t1.sl.v70_hi trip_k0_t1.sl.r_47 trip_k0_t1.sl.v76_lo trip_k0_t1.sl.r_18 trip_k0_t1.sl.r_34 trip_k0_t1.sl.v76_hi trip_k0_t1.sl.r_44 trip_k0_t1.sl.r_21 trip_k0_t1.sl.r_1 trip_k0_t1.sl.r_16 trip_k0_t1.sl.r_46 trip_k0_t1.sl.r_40 trip_k0_t1.sl.cst_90 trip_k0_t1.sl.r_11 trip_k0_t1.sl.r_23 trip_k0_t1.sl.r_17 trip_k0_t1.sl.r_45 trip_k0_t1.sl.r_4 trip_k0_t1.sl.r_20 trip_k0_t1.sl.r_3 trip_k0_t1.sl.r_14 trip_k0_t1.sl.r_6 trip_k0_t1.sl.r_41 trip_k0_t1.sl.v73_lo trip_k0_t1.sl.v71_hi trip_k0_t1.sl.v71_lo trip_k0_t1.sl.r_48 trip_k0_t1.sl.r_7 trip_k0_t1.sl.r_28 trip_k0_t1.sl.r_36 trip_k0_t1.sl.v74_hi trip_k0_t1.sl.r_26 trip_k0_t1.sl.r_8 trip_k0_t1.sl.r_30 trip_k0_t1.sl.r trip_k0_t1.sl.v72_lo trip_k0_t1.sl.r_32 trip_k0_t1.sl.r_39 trip_k0_t1.sl.r_19 trip_k0_t1.sl.v75_lo trip_k0_t1.sl.r_9 trip_k0_t1.sl.r_22 trip_k0_t1.sl.r_37 trip_k0_t1.sl.r_13 trip_k0_t1.sl.r_10 trip_k0_t1.sl.r_15 trip_k0_t1.sl.r_2
  simp only [h0, h1, h2, h3, h4, h5, h6, h7]
  generalize (blk (arg4.view.read (Elt Ideal) X_arg4) (2 * k.val + 0)) = X
  unfold_payloads
  pointwise []
  simp only [rawVec]
  pointwise []
  refine (add_sub_real _ _ ?_).trans ?_
  · repeat' first
      | exact IsReal.zero
      | exact IsReal.one
      | exact IsReal.bits _ (by decide)
      | apply IsReal.ite
      | apply IsReal.max
      | apply IsReal.mul
  · rfl

/-- The eight strided reads of the second unit of a trip of loop 1 are the eight classes of rows of its block. -/
theorem raws_t1_h1 (arg4 : Memref sig .tc .vmem S2048x128 .bf16) (arg13 : Memref sig .tc .vmem S128x2x128 .bf16) (X_arg4 : BufTy.Contents (Elt Ideal) arg4.view.ty) (k : Fin k0_t1_loop.trips) :
    trip_k0_t1.sl.v1326_raw (F := Ideal) arg4 arg13 X_arg4 k = rawVec (blk (arg4.view.read (Elt Ideal) X_arg4) (2 * k.val + 1)) 0 ∧
    trip_k0_t1.sl.v1327_raw (F := Ideal) arg4 arg13 X_arg4 k = rawVec (blk (arg4.view.read (Elt Ideal) X_arg4) (2 * k.val + 1)) 1 ∧
    trip_k0_t1.sl.v1328_raw (F := Ideal) arg4 arg13 X_arg4 k = rawVec (blk (arg4.view.read (Elt Ideal) X_arg4) (2 * k.val + 1)) 2 ∧
    trip_k0_t1.sl.v1329_raw (F := Ideal) arg4 arg13 X_arg4 k = rawVec (blk (arg4.view.read (Elt Ideal) X_arg4) (2 * k.val + 1)) 3 ∧
    trip_k0_t1.sl.v1330_raw (F := Ideal) arg4 arg13 X_arg4 k = rawVec (blk (arg4.view.read (Elt Ideal) X_arg4) (2 * k.val + 1)) 4 ∧
    trip_k0_t1.sl.v1331_raw (F := Ideal) arg4 arg13 X_arg4 k = rawVec (blk (arg4.view.read (Elt Ideal) X_arg4) (2 * k.val + 1)) 5 ∧
    trip_k0_t1.sl.v1332_raw (F := Ideal) arg4 arg13 X_arg4 k = rawVec (blk (arg4.view.read (Elt Ideal) X_arg4) (2 * k.val + 1)) 6 ∧
    trip_k0_t1.sl.v1333_raw (F := Ideal) arg4 arg13 X_arg4 k = rawVec (blk (arg4.view.read (Elt Ideal) X_arg4) (2 * k.val + 1)) 7 := by
  have hk : k.val < 8 := k.isLt
  refine ⟨?_, ?_, ?_, ?_, ?_, ?_, ?_, ?_⟩
  all_goals
    delta trip_k0_t1.sl.v1326_raw trip_k0_t1.sl.v1327_raw trip_k0_t1.sl.v1328_raw trip_k0_t1.sl.v1329_raw trip_k0_t1.sl.v1330_raw trip_k0_t1.sl.v1331_raw trip_k0_t1.sl.v1332_raw trip_k0_t1.sl.v1333_raw trip_k0_t1.sl.HW_arg13_2 trip_k0_t1.sl.k0_w2 trip_k0_t1.sl.r_151 trip_k0_t1.sl.r_152
    rw [blk_read _ _ (k0_off1 k 1#32) _ (2 * k.val + 1) (by omega) (fun a => off1_eq k 1 a)]
    exact readCov_strided (base := 64) _ _ _ _ (by decide) _ (by decide) _ _ _ (by omega)

/-- The scales that the second unit of a trip of loop 1 computes are those of its groups. -/
theorem unit_t1_h1 (arg4 : Memref sig .tc .vmem S2048x128 .bf16) (arg13 : Memref sig .tc .vmem S128x2x128 .bf16) (v1 v3 v5 v7 v9 v11 v13 v15 v17 v19 v21 v23 v25 v27 v28 v30 v32 : Ideal .f32) (X_arg4 : BufTy.Contents (Elt Ideal) arg4.view.ty) (k : Fin k0_t1_loop.trips) (s : Fin 8) (l : Fin 128) :
    (trip_k0_t1.sl.v2567 (F := Ideal) arg4 arg13 v1 v3 v5 v7 v9 v11 v13 v15 v17 v19 v21 v23 v25 v27 v28 v30 v32 X_arg4 k) (ix2 s l)
      = gscale v32 (leaf (blk (arg4.view.read (Elt Ideal) X_arg4) (2 * k.val + 1)) (sgnv v1 v3 v5 v7 v9 v11 v13 v15 v17 v19 v21 v23 v25 v27 v28 v30) s l) := by
  obtain ⟨h0, h1, h2, h3, h4, h5, h6, h7⟩ := raws_t1_h1 arg4 arg13 X_arg4 k
  delta trip_k0_t1.sl.r_157 trip_k0_t1.sl.v1328_hi trip_k0_t1.sl.r_158 trip_k0_t1.sl.r_174 trip_k0_t1.sl.r_156 trip_k0_t1.sl.r_170 trip_k0_t1.sl.v1327_hi trip_k0_t1.sl.v2567 trip_k0_t1.sl.r_172 trip_k0_t1.sl.r_197 trip_k0_t1.sl.v1326_hi trip_k0_t1.sl.r_192 trip_k0_t1.sl.r_168 trip_k0_t1.sl.v1328_lo trip_k0_t1.sl.v1326_lo trip_k0_t1.sl.cst_541 trip_k0_t1.sl.r_165 trip_k0_t1.sl.r_159 trip_k0_t1.sl.r_162 trip_k0_t1.sl.v1332_hi trip_k0_t1.sl.r_196 trip_k0_t1.sl.r_160 trip_k0_t1.sl.r_163 trip_k0_t1.sl.v1332_lo trip_k0_t1.sl.r_194 trip_k0_t1.sl.r_171 trip_k0_t1.sl.r_161 trip_k0_t1.sl.r_177 trip_k0_t1.sl.r_178 trip_k0_t1.sl.v1331_lo trip_k0_t1.sl.r_173 trip_k0_t1.sl.r_167 trip_k0_t1.sl.r_155 trip_k0_t1.sl.r_200 trip_k0_t1.sl.r_201 trip_k0_t1.sl.r_199 trip_k0_t1.sl.r_164 trip_k0_t1.sl.r_195 trip_k0_t1.sl.r_169 trip_k0_t1.sl.v1331_hi trip_k0_t1.sl.v1333_lo trip_k0_t1.sl.r_198 trip_k0_t1.sl.r_154 trip_k0_t1.sl.r_166 trip_k0_t1.sl.r_153 trip_k0_t1.sl.v1330_lo trip_k0_t1.sl.v1329_lo trip_k0_t1.sl.r_175 trip_k0_t1.sl.v1329_hi trip_k0_t1.sl.r_176 trip_k0_t1.sl.v1327_lo trip_k0_t1.sl.v1333_hi trip_k0_t1.sl.v1330_hi
  simp only [h0, h1, h2, h3, h4, h5, h6, h7]
  generalize (blk (arg4.view.read (Elt Ideal) X_arg4) (2 * k.val + 1)) = X
  unfold_payloads
  pointwise []
  simp only [rawVec]
  pointwise []
  refine (add_sub_real _ _ ?_).trans ?_
  · repeat' first
      | exact IsReal.zero
      | exact IsReal.one
      | exact IsReal.bits _ (by decide)
      | apply IsReal.ite
      | apply IsReal.max
      | apply IsReal.mul
  · rfl

/-- The eight strided reads of the first unit of a trip of loop 2 are the eight classes of rows of its block. -/
theorem raws_t2_h0 (arg5 : Memref sig .tc .vmem S2048x128 .bf16) (arg13 : Memref sig .tc .vmem S128x2x128 .bf16) (X_arg5 : BufTy.Contents (Elt Ideal) arg5.view.ty) (k : Fin k0_t2_loop.trips) :
    trip_k0_t2.sl.v70_raw (F := Ideal) arg5 arg13 X_arg5 k = rawVec (blk (arg5.view.read (Elt Ideal) X_arg5) (2 * k.val + 0)) 0 ∧
    trip_k0_t2.sl.v71_raw (F := Ideal) arg5 arg13 X_arg5 k = rawVec (blk (arg5.view.read (Elt Ideal) X_arg5) (2 * k.val + 0)) 1 ∧
    trip_k0_t2.sl.v72_raw (F := Ideal) arg5 arg13 X_arg5 k = rawVec (blk (arg5.view.read (Elt Ideal) X_arg5) (2 * k.val + 0)) 2 ∧
    trip_k0_t2.sl.v73_raw (F := Ideal) arg5 arg13 X_arg5 k = rawVec (blk (arg5.view.read (Elt Ideal) X_arg5) (2 * k.val + 0)) 3 ∧
    trip_k0_t2.sl.v74_raw (F := Ideal) arg5 arg13 X_arg5 k = rawVec (blk (arg5.view.read (Elt Ideal) X_arg5) (2 * k.val + 0)) 4 ∧
    trip_k0_t2.sl.v75_raw (F := Ideal) arg5 arg13 X_arg5 k = rawVec (blk (arg5.view.read (Elt Ideal) X_arg5) (2 * k.val + 0)) 5 ∧
    trip_k0_t2.sl.v76_raw (F := Ideal) arg5 arg13 X_arg5 k = rawVec (blk (arg5.view.read (Elt Ideal) X_arg5) (2 * k.val + 0)) 6 ∧
    trip_k0_t2.sl.v77_raw (F := Ideal) arg5 arg13 X_arg5 k = rawVec (blk (arg5.view.read (Elt Ideal) X_arg5) (2 * k.val + 0)) 7 := by
  have hk : k.val < 8 := k.isLt
  refine ⟨?_, ?_, ?_, ?_, ?_, ?_, ?_, ?_⟩
  all_goals
    delta trip_k0_t2.sl.v70_raw trip_k0_t2.sl.v71_raw trip_k0_t2.sl.v72_raw trip_k0_t2.sl.v73_raw trip_k0_t2.sl.v74_raw trip_k0_t2.sl.v75_raw trip_k0_t2.sl.v76_raw trip_k0_t2.sl.v77_raw trip_k0_t2.sl.HW_arg13_1 trip_k0_t2.sl.k0_w3 trip_k0_t2.sl.v66_lo trip_k0_t2.sl.v66_hi
    rw [blk_read _ _ (k0_off5 k 0#32) _ (2 * k.val + 0) (by omega) (fun a => off5_eq k 0 a)]
    exact readCov_strided (base := 0) _ _ _ _ (by decide) _ (by decide) _ _ _ (by omega)

/-- The scales that the first unit of a trip of loop 2 computes are those of its groups. -/
theorem unit_t2_h0 (arg5 : Memref sig .tc .vmem S2048x128 .bf16) (arg13 : Memref sig .tc .vmem S128x2x128 .bf16) (v1 v3 v5 v7 v9 v11 v13 v15 v17 v19 v21 v23 v25 v27 v28 v30 v32 : Ideal .f32) (X_arg5 : BufTy.Contents (Elt Ideal) arg5.view.ty) (k : Fin k0_t2_loop.trips) (s : Fin 8) (l : Fin 128) :
    (k0_pay648 (trip_k0_t2.sl.r_48 (F := Ideal) arg5 arg13 v1 v3 v5 v7 v9 v11 v13 v15 v17 v19 v21 v23 v25 v27 v28 v30 v32 X_arg5 k)) (ix2 s l)
      = gscale v32 (leaf (blk (arg5.view.read (Elt Ideal) X_arg5) (2 * k.val + 0)) (sgnv v1 v3 v5 v7 v9 v11 v13 v15 v17 v19 v21 v23 v25 v27 v28 v30) s l) := by
  obtain ⟨h0, h1, h2, h3, h4, h5, h6, h7⟩ := raws_t2_h0 arg5 arg13 X_arg5 k
  delta trip_k0_t2.sl.r_43 trip_k0_t2.sl.v74_hi trip_k0_t2.sl.v70_hi trip_k0_t2.sl.r_5 trip_k0_t2.sl.v72_lo trip_k0_t2.sl.v75_lo trip_k0_t2.sl.v70_lo trip_k0_t2.sl.r_38 trip_k0_t2.sl.r_26 trip_k0_t2.sl.r_39 trip_k0_t2.sl.r_7 trip_k0_t2.sl.r_11 trip_k0_t2.sl.r_16 trip_k0_t2.sl.r_48 trip_k0_t2.sl.r_21 trip_k0_t2.sl.r_32 trip_k0_t2.sl.r_34 trip_k0_t2.sl.r_12 trip_k0_t2.sl.r_20 trip_k0_t2.sl.cst_90 trip_k0_t2.sl.v73_lo trip_k0_t2.sl.v74_lo trip_k0_t2.sl.r_47 trip_k0_t2.sl.r_37 trip_k0_t2.sl.r trip_k0_t2.sl.r_28 trip_k0_t2.sl.r_3 trip_k0_t2.sl.r_24 trip_k0_t2.sl.r_13 trip_k0_t2.sl.r_17 trip_k0_t2.sl.v75_hi trip_k0_t2.sl.r_41 trip_k0_t2.sl.r_45 trip_k0_t2.sl.r_14 trip_k0_t2.sl.v76_hi trip_k0_t2.sl.r_23 trip_k0_t2.sl.r_15 trip_k0_t2.sl.r_40 trip_k0_t2.sl.r_2 trip_k0_t2.sl.v76_lo trip_k0_t2.sl.v71_lo trip_k0_t2.sl.r_1 trip_k0_t2.sl.r_44 trip_k0_t2.sl.v72_hi trip_k0_t2.sl.v71_hi trip_k0_t2.sl.r_46 trip_k0_t2.sl.r_36 trip_k0_t2.sl.v73_hi trip_k0_t2.sl.r_9 trip_k0_t2.sl.r_30 trip_k0_t2.sl.r_42 trip_k0_t2.sl.r_22 trip_k0_t2.sl.r_4 trip_k0_t2.sl.r_18 trip_k0_t2.sl.r_19 trip_k0_t2.sl.r_8 trip_k0_t2.sl.r_10 trip_k0_t2.sl.r_6
  simp only [h0, h1, h2, h3, h4, h5, h6, h7]
  generalize (blk (arg5.view.read (Elt Ideal) X_arg5) (2 * k.val + 0)) = X
  unfold_payloads
  pointwise []
  simp only [rawVec]
  pointwise []
  refine (add_sub_real _ _ ?_).trans ?_
  · repeat' first
      | exact IsReal.zero
      | exact IsReal.one
      | exact IsReal.bits _ (by decide)
      | apply IsReal.ite
      | apply IsReal.max
      | apply IsReal.mul
  · rfl

/-- The eight strided reads of the second unit of a trip of loop 2 are the eight classes of rows of its block. -/
theorem raws_t2_h1 (arg5 : Memref sig .tc .vmem S2048x128 .bf16) (arg13 : Memref sig .tc .vmem S128x2x128 .bf16) (X_arg5 : BufTy.Contents (Elt Ideal) arg5.view.ty) (k : Fin k0_t2_loop.trips) :
    trip_k0_t2.sl.v1326_raw (F := Ideal) arg5 arg13 X_arg5 k = rawVec (blk (arg5.view.read (Elt Ideal) X_arg5) (2 * k.val + 1)) 0 ∧
    trip_k0_t2.sl.v1327_raw (F := Ideal) arg5 arg13 X_arg5 k = rawVec (blk (arg5.view.read (Elt Ideal) X_arg5) (2 * k.val + 1)) 1 ∧
    trip_k0_t2.sl.v1328_raw (F := Ideal) arg5 arg13 X_arg5 k = rawVec (blk (arg5.view.read (Elt Ideal) X_arg5) (2 * k.val + 1)) 2 ∧
    trip_k0_t2.sl.v1329_raw (F := Ideal) arg5 arg13 X_arg5 k = rawVec (blk (arg5.view.read (Elt Ideal) X_arg5) (2 * k.val + 1)) 3 ∧
    trip_k0_t2.sl.v1330_raw (F := Ideal) arg5 arg13 X_arg5 k = rawVec (blk (arg5.view.read (Elt Ideal) X_arg5) (2 * k.val + 1)) 4 ∧
    trip_k0_t2.sl.v1331_raw (F := Ideal) arg5 arg13 X_arg5 k = rawVec (blk (arg5.view.read (Elt Ideal) X_arg5) (2 * k.val + 1)) 5 ∧
    trip_k0_t2.sl.v1332_raw (F := Ideal) arg5 arg13 X_arg5 k = rawVec (blk (arg5.view.read (Elt Ideal) X_arg5) (2 * k.val + 1)) 6 ∧
    trip_k0_t2.sl.v1333_raw (F := Ideal) arg5 arg13 X_arg5 k = rawVec (blk (arg5.view.read (Elt Ideal) X_arg5) (2 * k.val + 1)) 7 := by
  have hk : k.val < 8 := k.isLt
  refine ⟨?_, ?_, ?_, ?_, ?_, ?_, ?_, ?_⟩
  all_goals
    delta trip_k0_t2.sl.v1326_raw trip_k0_t2.sl.v1327_raw trip_k0_t2.sl.v1328_raw trip_k0_t2.sl.v1329_raw trip_k0_t2.sl.v1330_raw trip_k0_t2.sl.v1331_raw trip_k0_t2.sl.v1332_raw trip_k0_t2.sl.v1333_raw trip_k0_t2.sl.HW_arg13_2 trip_k0_t2.sl.k0_w4 trip_k0_t2.sl.r_151 trip_k0_t2.sl.r_152
    rw [blk_read _ _ (k0_off5 k 1#32) _ (2 * k.val + 1) (by omega) (fun a => off5_eq k 1 a)]
    exact readCov_strided (base := 64) _ _ _ _ (by decide) _ (by decide) _ _ _ (by omega)

/-- The scales that the second unit of a trip of loop 2 computes are those of its groups. -/
theorem unit_t2_h1 (arg5 : Memref sig .tc .vmem S2048x128 .bf16) (arg13 : Memref sig .tc .vmem S128x2x128 .bf16) (v1 v3 v5 v7 v9 v11 v13 v15 v17 v19 v21 v23 v25 v27 v28 v30 v32 : Ideal .f32) (X_arg5 : BufTy.Contents (Elt Ideal) arg5.view.ty) (k : Fin k0_t2_loop.trips) (s : Fin 8) (l : Fin 128) :
    (trip_k0_t2.sl.v2567 (F := Ideal) arg5 arg13 v1 v3 v5 v7 v9 v11 v13 v15 v17 v19 v21 v23 v25 v27 v28 v30 v32 X_arg5 k) (ix2 s l)
      = gscale v32 (leaf (blk (arg5.view.read (Elt Ideal) X_arg5) (2 * k.val + 1)) (sgnv v1 v3 v5 v7 v9 v11 v13 v15 v17 v19 v21 v23 v25 v27 v28 v30) s l) := by
  obtain ⟨h0, h1, h2, h3, h4, h5, h6, h7⟩ := raws_t2_h1 arg5 arg13 X_arg5 k
  delta trip_k0_t2.sl.v1333_hi trip_k0_t2.sl.r_178 trip_k0_t2.sl.r_156 trip_k0_t2.sl.r_198 trip_k0_t2.sl.r_168 trip_k0_t2.sl.r_195 trip_k0_t2.sl.r_197 trip_k0_t2.sl.v1333_lo trip_k0_t2.sl.v1328_lo trip_k0_t2.sl.r_173 trip_k0_t2.sl.r_157 trip_k0_t2.sl.r_162 trip_k0_t2.sl.v2567 trip_k0_t2.sl.r_160 trip_k0_t2.sl.r_174 trip_k0_t2.sl.r_169 trip_k0_t2.sl.r_196 trip_k0_t2.sl.r_155 trip_k0_t2.sl.r_165 trip_k0_t2.sl.r_175 trip_k0_t2.sl.v1328_hi trip_k0_t2.sl.v1332_hi trip_k0_t2.sl.r_159 trip_k0_t2.sl.r_166 trip_k0_t2.sl.r_153 trip_k0_t2.sl.r_158 trip_k0_t2.sl.r_171 trip_k0_t2.sl.r_170 trip_k0_t2.sl.r_161 trip_k0_t2.sl.v1326_lo trip_k0_t2.sl.v1331_hi trip_k0_t2.sl.cst_541 trip_k0_t2.sl.r_200 trip_k0_t2.sl.r_199 trip_k0_t2.sl.r_177 trip_k0_t2.sl.r_163 trip_k0_t2.sl.v1330_lo trip_k0_t2.sl.v1331_lo trip_k0_t2.sl.r_167 trip_k0_t2.sl.r_176 trip_k0_t2.sl.v1327_hi trip_k0_t2.sl.r_154 trip_k0_t2.sl.r_194 trip_k0_t2.sl.r_201 trip_k0_t2.sl.v1329_lo trip_k0_t2.sl.v1332_lo trip_k0_t2.sl.v1327_lo trip_k0_t2.sl.r_192 trip_k0_t2.sl.v1326_hi trip_k0_t2.sl.v1329_hi trip_k0_t2.sl.r_172 trip_k0_t2.sl.v1330_hi trip_k0_t2.sl.r_164
  simp only [h0, h1, h2, h3, h4, h5, h6, h7]
  generalize (blk (arg5.view.read (Elt Ideal) X_arg5) (2 * k.val + 1)) = X
  unfold_payloads
  pointwise []
  simp only [rawVec]
  pointwise []
  refine (add_sub_real _ _ ?_).trans ?_
  · repeat' first
      | exact IsReal.zero
      | exact IsReal.one
      | exact IsReal.bits _ (by decide)
      | apply IsReal.ite
      | apply IsReal.max
      | apply IsReal.mul
  · rfl

end Cert.DyIdeal.Body
-- ==== Proof.DyLoops.lean ====
/-
  Hand-written, untrusted. What the two loops of the quantiser of dy leave in the scratch buffer of scales, and what the
  run of the body stores as block scales and as the tensor's scale.
-/
module

public import proofs.«01_k».proof.Proof.QuantLoops
public import proofs.«01_k».proof.Proof.DyUnits
public import proofs.«01_k».proof.Proof.DyIdealRun

@[expose] public section

set_option maxRecDepth 16384
set_option maxHeartbeats 4000000

noncomputable section

namespace Cert.DyIdeal.Body

open Cert.DyIdeal Cert.DyIdeal.Gen
open Cert.QuantIdeal.Body (rowScale sgnv quarter sbBlk stBlk tscale)
open Idealize.ShloMosaic Idealize.ShloMosaic.TcCoe Idealize.ShloMosaic.Tactic

/-- One trip of loop 1 writes sixteen rows of scales and leaves the others. -/
theorem trip_read_t1 (𝒱 : Variants) (c : Dev nD) (bd : Option 𝒱.V) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .i8) (harg6 : arg6.IsWhole) (arg7 : Memref sig .tc .vmem S2048x128 .i8) (harg7 : arg7.IsWhole) (arg8 : Memref sig .tc .vmem S256x1024 .i8) (harg8 : arg8.IsWhole) (arg9 : Memref sig .tc .vmem S256x128 .fp8e4m3) (harg9 : arg9.IsWhole) (arg10 : Memref sig .tc .smem S1 .f32) (harg10 : arg10.IsWhole) (arg11 : Memref sig .tc .vmem S256x2048 .bf16) (harg11 : arg11.IsWhole) (arg12 : Memref sig .tc .vmem S128x128 .f32) (harg12 : arg12.IsWhole) (arg13 : Memref sig .tc .vmem S128x2x128 .bf16) (harg13 : arg13.IsWhole) (arg14 : Memref sig .tc .vmem S64x128 .i32) (harg14 : arg14.IsWhole) (v1 : Ideal .f32) (v3 : Ideal .f32) (v5 : Ideal .f32) (v7 : Ideal .f32) (v9 : Ideal .f32) (v11 : Ideal .f32) (v13 : Ideal .f32) (v15 : Ideal .f32) (v17 : Ideal .f32) (v19 : Ideal .f32) (v21 : Ideal .f32) (v23 : Ideal .f32) (v25 : Ideal .f32) (v27 : Ideal .f32) (v28 : Elt Ideal .f32) (v30 : Elt Ideal .f32) (v32 : Elt Ideal .f32) (X_arg4 : BufTy.Contents (Elt Ideal) arg4.view.ty) (X_arg6 : BufTy.Contents (Elt Ideal) arg6.view.ty)  (k : Fin k0_t1_loop.trips) (f8 f11 f12 f13 f14) (G : BufTy.Contents (Elt Ideal) arg12.view.ty) (L : List (View.Piece (Elt Ideal) S128x128 .f32)) (r l : Fin 128) :
    arg12.view.read (Elt Ideal) (arg12.view.writes (Elt Ideal) G ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v1 v3 v5 v7 v9 v11 v13 v15 v17 v19 v21 v23 v25 v27 v28 v30 v32 X_arg4 X_arg6 k).2.2.1 f8 f11 f12 f13 f14 ++ L)) (ix2 r l)
      = if 16 * k.val ≤ r.val ∧ r.val < 16 * k.val + 16 then rowScale v32 (sgnv v1 v3 v5 v7 v9 v11 v13 v15 v17 v19 v21 v23 v25 v27 v28 v30) (arg4.view.read (Elt Ideal) X_arg4) r.val l
        else arg12.view.read (Elt Ideal) (arg12.view.writes (Elt Ideal) G L) (ix2 r l) := by
  have hk : k.val < 8 := k.isLt
  have o0 : k0_off2 k 0#32 = ![8 * (2 * k.val), 0] := funext fun a => off2_eq k 0 a
  have o1 : k0_off2 k 1#32 = ![8 * (2 * k.val + 1), 0] := funext fun a => off2_eq k 1 a
  unfold trip_k0_t1
  dsimp only [List.cons_append, List.nil_append]
  by_cases h1 : 16 * k.val + 8 ≤ r.val ∧ r.val < 16 * k.val + 16
  · rw [if_pos (by omega)]
    refine (View.read_writes_cons_rows_of_mem _ _ _ _ _ (ix2 r l) (ix2 (⟨r.val - (16 * k.val + 8), by omega⟩ : Fin 8) l) o1 (by show r.val = 8 * (2 * k.val + 1) + (r.val - (16 * k.val + 8)); omega) rfl).trans ?_
    refine (unit_t1_h1 arg4 arg13 v1 v3 v5 v7 v9 v11 v13 v15 v17 v19 v21 v23 v25 v27 v28 v30 v32 X_arg4 k _ l).trans ?_
    unfold rowScale
    congr 2
    · congr 1; omega
    · apply Fin.ext; show r.val - (16 * k.val + 8) = r.val % 8; omega
  · refine (View.read_writes_cons_rows_of_not_mem (W := 8) _ _ _ _ _ (ix2 r l) o1 rfl (by show r.val < 8 * (2 * k.val + 1) ∨ 8 * (2 * k.val + 1) + 8 ≤ r.val; omega)).trans ?_
    by_cases h0 : 16 * k.val ≤ r.val ∧ r.val < 16 * k.val + 8
    · rw [if_pos (by omega)]
      refine (View.read_writes_cons_rows_of_mem _ _ _ _ _ (ix2 r l) (ix2 (⟨r.val - 16 * k.val, by omega⟩ : Fin 8) l) o0 (by show r.val = 8 * (2 * k.val) + (r.val - 16 * k.val); omega) rfl).trans ?_
      refine (unit_t1_h0 arg4 arg13 v1 v3 v5 v7 v9 v11 v13 v15 v17 v19 v21 v23 v25 v27 v28 v30 v32 X_arg4 k _ l).trans ?_
      unfold rowScale
      congr 2
      · congr 1; omega
      · apply Fin.ext; show r.val - 16 * k.val = r.val % 8; omega
    · rw [if_neg (by omega)]
      exact View.read_writes_cons_rows_of_not_mem (W := 8) _ _ _ _ _ (ix2 r l) o0 rfl (by show r.val < 8 * (2 * k.val) ∨ 8 * (2 * k.val) + 8 ≤ r.val; omega)

/-- After `n` trips of loop 1 the first `16 n` rows hold their scales. -/
theorem loop_read_t1 (𝒱 : Variants) (c : Dev nD) (bd : Option 𝒱.V) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .i8) (harg6 : arg6.IsWhole) (arg7 : Memref sig .tc .vmem S2048x128 .i8) (harg7 : arg7.IsWhole) (arg8 : Memref sig .tc .vmem S256x1024 .i8) (harg8 : arg8.IsWhole) (arg9 : Memref sig .tc .vmem S256x128 .fp8e4m3) (harg9 : arg9.IsWhole) (arg10 : Memref sig .tc .smem S1 .f32) (harg10 : arg10.IsWhole) (arg11 : Memref sig .tc .vmem S256x2048 .bf16) (harg11 : arg11.IsWhole) (arg12 : Memref sig .tc .vmem S128x128 .f32) (harg12 : arg12.IsWhole) (arg13 : Memref sig .tc .vmem S128x2x128 .bf16) (harg13 : arg13.IsWhole) (arg14 : Memref sig .tc .vmem S64x128 .i32) (harg14 : arg14.IsWhole) (v1 : Ideal .f32) (v3 : Ideal .f32) (v5 : Ideal .f32) (v7 : Ideal .f32) (v9 : Ideal .f32) (v11 : Ideal .f32) (v13 : Ideal .f32) (v15 : Ideal .f32) (v17 : Ideal .f32) (v19 : Ideal .f32) (v21 : Ideal .f32) (v23 : Ideal .f32) (v25 : Ideal .f32) (v27 : Ideal .f32) (v28 : Elt Ideal .f32) (v30 : Elt Ideal .f32) (v32 : Elt Ideal .f32) (X_arg4 : BufTy.Contents (Elt Ideal) arg4.view.ty) (X_arg6 : BufTy.Contents (Elt Ideal) arg6.view.ty)  (G8 G11 G12 G13 G14) (G : BufTy.Contents (Elt Ideal) arg12.view.ty) (L : List (View.Piece (Elt Ideal) S128x128 .f32)) (r l : Fin 128) (n : ℕ) (hn : n ≤ 8) (hr : r.val < 16 * n) :
    arg12.view.read (Elt Ideal) (arg12.view.writes (Elt Ideal) G ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v1 v3 v5 v7 v9 v11 v13 v15 v17 v19 v21 v23 v25 v27 v28 v30 v32 X_arg4 X_arg6 G8 G11 G12 G13 G14 n).2.2.1 ++ L)) (ix2 r l)
      = rowScale v32 (sgnv v1 v3 v5 v7 v9 v11 v13 v15 v17 v19 v21 v23 v25 v27 v28 v30) (arg4.view.read (Elt Ideal) X_arg4) r.val l := by
  induction n with
  | zero => omega
  | succ n ih =>
    have h := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v1 v3 v5 v7 v9 v11 v13 v15 v17 v19 v21 v23 v25 v27 v28 v30 v32 X_arg4 X_arg6 G8 G11 G12 G13 G14 ⟨n, hn⟩
    dsimp only at h
    rw [h]
    dsimp only
    rw [List.append_assoc, trip_read_t1]
    split
    · rfl
    · rename_i hh
      exact ih (by omega) (by dsimp only at hh; omega)

/-- One trip of loop 2 writes sixteen rows of scales and leaves the others. -/
theorem trip_read_t2 (𝒱 : Variants) (c : Dev nD) (bd : Option 𝒱.V) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .i8) (harg6 : arg6.IsWhole) (arg7 : Memref sig .tc .vmem S2048x128 .i8) (harg7 : arg7.IsWhole) (arg8 : Memref sig .tc .vmem S256x1024 .i8) (harg8 : arg8.IsWhole) (arg9 : Memref sig .tc .vmem S256x128 .fp8e4m3) (harg9 : arg9.IsWhole) (arg10 : Memref sig .tc .smem S1 .f32) (harg10 : arg10.IsWhole) (arg11 : Memref sig .tc .vmem S256x2048 .bf16) (harg11 : arg11.IsWhole) (arg12 : Memref sig .tc .vmem S128x128 .f32) (harg12 : arg12.IsWhole) (arg13 : Memref sig .tc .vmem S128x2x128 .bf16) (harg13 : arg13.IsWhole) (arg14 : Memref sig .tc .vmem S64x128 .i32) (harg14 : arg14.IsWhole) (v1 : Ideal .f32) (v3 : Ideal .f32) (v5 : Ideal .f32) (v7 : Ideal .f32) (v9 : Ideal .f32) (v11 : Ideal .f32) (v13 : Ideal .f32) (v15 : Ideal .f32) (v17 : Ideal .f32) (v19 : Ideal .f32) (v21 : Ideal .f32) (v23 : Ideal .f32) (v25 : Ideal .f32) (v27 : Ideal .f32) (v28 : Elt Ideal .f32) (v30 : Elt Ideal .f32) (v32 : Elt Ideal .f32) (X_arg5 : BufTy.Contents (Elt Ideal) arg5.view.ty) (X_arg7 : BufTy.Contents (Elt Ideal) arg7.view.ty)  (k : Fin k0_t2_loop.trips) (f8 f11 f12 f13 f14) (G : BufTy.Contents (Elt Ideal) arg12.view.ty) (L : List (View.Piece (Elt Ideal) S128x128 .f32)) (r l : Fin 128) :
    arg12.view.read (Elt Ideal) (arg12.view.writes (Elt Ideal) G ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v1 v3 v5 v7 v9 v11 v13 v15 v17 v19 v21 v23 v25 v27 v28 v30 v32 X_arg5 X_arg7 k).2.2.1 f8 f11 f12 f13 f14 ++ L)) (ix2 r l)
      = if 16 * k.val ≤ r.val ∧ r.val < 16 * k.val + 16 then rowScale v32 (sgnv v1 v3 v5 v7 v9 v11 v13 v15 v17 v19 v21 v23 v25 v27 v28 v30) (arg5.view.read (Elt Ideal) X_arg5) r.val l
        else arg12.view.read (Elt Ideal) (arg12.view.writes (Elt Ideal) G L) (ix2 r l) := by
  have hk : k.val < 8 := k.isLt
  have o0 : k0_off6 k 0#32 = ![8 * (2 * k.val), 0] := funext fun a => off6_eq k 0 a
  have o1 : k0_off6 k 1#32 = ![8 * (2 * k.val + 1), 0] := funext fun a => off6_eq k 1 a
  unfold trip_k0_t2
  dsimp only [List.cons_append, List.nil_append]
  by_cases h1 : 16 * k.val + 8 ≤ r.val ∧ r.val < 16 * k.val + 16
  · rw [if_pos (by omega)]
    refine (View.read_writes_cons_rows_of_mem _ _ _ _ _ (ix2 r l) (ix2 (⟨r.val - (16 * k.val + 8), by omega⟩ : Fin 8) l) o1 (by show r.val = 8 * (2 * k.val + 1) + (r.val - (16 * k.val + 8)); omega) rfl).trans ?_
    refine (unit_t2_h1 arg5 arg13 v1 v3 v5 v7 v9 v11 v13 v15 v17 v19 v21 v23 v25 v27 v28 v30 v32 X_arg5 k _ l).trans ?_
    unfold rowScale
    congr 2
    · congr 1; omega
    · apply Fin.ext; show r.val - (16 * k.val + 8) = r.val % 8; omega
  · refine (View.read_writes_cons_rows_of_not_mem (W := 8) _ _ _ _ _ (ix2 r l) o1 rfl (by show r.val < 8 * (2 * k.val + 1) ∨ 8 * (2 * k.val + 1) + 8 ≤ r.val; omega)).trans ?_
    by_cases h0 : 16 * k.val ≤ r.val ∧ r.val < 16 * k.val + 8
    · rw [if_pos (by omega)]
      refine (View.read_writes_cons_rows_of_mem _ _ _ _ _ (ix2 r l) (ix2 (⟨r.val - 16 * k.val, by omega⟩ : Fin 8) l) o0 (by show r.val = 8 * (2 * k.val) + (r.val - 16 * k.val); omega) rfl).trans ?_
      refine (unit_t2_h0 arg5 arg13 v1 v3 v5 v7 v9 v11 v13 v15 v17 v19 v21 v23 v25 v27 v28 v30 v32 X_arg5 k _ l).trans ?_
      unfold rowScale
      congr 2
      · congr 1; omega
      · apply Fin.ext; show r.val - 16 * k.val = r.val % 8; omega
    · rw [if_neg (by omega)]
      exact View.read_writes_cons_rows_of_not_mem (W := 8) _ _ _ _ _ (ix2 r l) o0 rfl (by show r.val < 8 * (2 * k.val) ∨ 8 * (2 * k.val) + 8 ≤ r.val; omega)

/-- After `n` trips of loop 2 the first `16 n` rows hold their scales. -/
theorem loop_read_t2 (𝒱 : Variants) (c : Dev nD) (bd : Option 𝒱.V) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .i8) (harg6 : arg6.IsWhole) (arg7 : Memref sig .tc .vmem S2048x128 .i8) (harg7 : arg7.IsWhole) (arg8 : Memref sig .tc .vmem S256x1024 .i8) (harg8 : arg8.IsWhole) (arg9 : Memref sig .tc .vmem S256x128 .fp8e4m3) (harg9 : arg9.IsWhole) (arg10 : Memref sig .tc .smem S1 .f32) (harg10 : arg10.IsWhole) (arg11 : Memref sig .tc .vmem S256x2048 .bf16) (harg11 : arg11.IsWhole) (arg12 : Memref sig .tc .vmem S128x128 .f32) (harg12 : arg12.IsWhole) (arg13 : Memref sig .tc .vmem S128x2x128 .bf16) (harg13 : arg13.IsWhole) (arg14 : Memref sig .tc .vmem S64x128 .i32) (harg14 : arg14.IsWhole) (v1 : Ideal .f32) (v3 : Ideal .f32) (v5 : Ideal .f32) (v7 : Ideal .f32) (v9 : Ideal .f32) (v11 : Ideal .f32) (v13 : Ideal .f32) (v15 : Ideal .f32) (v17 : Ideal .f32) (v19 : Ideal .f32) (v21 : Ideal .f32) (v23 : Ideal .f32) (v25 : Ideal .f32) (v27 : Ideal .f32) (v28 : Elt Ideal .f32) (v30 : Elt Ideal .f32) (v32 : Elt Ideal .f32) (X_arg5 : BufTy.Contents (Elt Ideal) arg5.view.ty) (X_arg7 : BufTy.Contents (Elt Ideal) arg7.view.ty)  (G8 G11 G12 G13 G14) (G : BufTy.Contents (Elt Ideal) arg12.view.ty) (L : List (View.Piece (Elt Ideal) S128x128 .f32)) (r l : Fin 128) (n : ℕ) (hn : n ≤ 8) (hr : r.val < 16 * n) :
    arg12.view.read (Elt Ideal) (arg12.view.writes (Elt Ideal) G ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v1 v3 v5 v7 v9 v11 v13 v15 v17 v19 v21 v23 v25 v27 v28 v30 v32 X_arg5 X_arg7 G8 G11 G12 G13 G14 n).2.2.1 ++ L)) (ix2 r l)
      = rowScale v32 (sgnv v1 v3 v5 v7 v9 v11 v13 v15 v17 v19 v21 v23 v25 v27 v28 v30) (arg5.view.read (Elt Ideal) X_arg5) r.val l := by
  induction n with
  | zero => omega
  | succ n ih =>
    have h := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v1 v3 v5 v7 v9 v11 v13 v15 v17 v19 v21 v23 v25 v27 v28 v30 v32 X_arg5 X_arg7 G8 G11 G12 G13 G14 ⟨n, hn⟩
    dsimp only at h
    rw [h]
    dsimp only
    rw [List.append_assoc, trip_read_t2]
    split
    · rfl
    · rename_i hh
      exact ih (by omega) (by dsimp only at hh; omega)

/-- The sixteen signs that the body reads and quarters. -/
theorem sgn_eq (arg2 : Memref sig .tc .smem S16 .f32) (X_arg2 : BufTy.Contents (Elt Ideal) arg2.view.ty) :
    sgnv (kernelRun.sl.r_15 (F := Ideal) arg2 X_arg2) (kernelRun.sl.r_16 (F := Ideal) arg2 X_arg2) (kernelRun.sl.r_17 (F := Ideal) arg2 X_arg2) (kernelRun.sl.r_18 (F := Ideal) arg2 X_arg2) (kernelRun.sl.r_19 (F := Ideal) arg2 X_arg2) (kernelRun.sl.r_20 (F := Ideal) arg2 X_arg2) (kernelRun.sl.r_21 (F := Ideal) arg2 X_arg2) (kernelRun.sl.r_22 (F := Ideal) arg2 X_arg2) (kernelRun.sl.r_23 (F := Ideal) arg2 X_arg2) (kernelRun.sl.r_24 (F := Ideal) arg2 X_arg2) (kernelRun.sl.r_25 (F := Ideal) arg2 X_arg2) (kernelRun.sl.r_26 (F := Ideal) arg2 X_arg2) (kernelRun.sl.r_27 (F := Ideal) arg2 X_arg2) (kernelRun.sl.r_28 (F := Ideal) arg2 X_arg2) (kernelRun.sl.r_14 (F := Ideal) arg2 X_arg2) (kernelRun.sl.r_29 (F := Ideal) arg2 X_arg2) = quarter (arg2.view.read (Elt Ideal) X_arg2) := by
  sl_unfold_words
  funext j
  fin_cases j <;> (unfold_payloads; refine congrArg (· * Ideal.ofBits .f32 1048576000#32) (congrArg (arg2.view.read (Elt Ideal) X_arg2) ?_); funext a; apply Fin.ext; fin_cases a; rfl)

/-- The maximum that the body reads. -/
theorem amax_eq (arg3 : Memref sig .tc .smem S1 .f32) (X_arg3 : BufTy.Contents (Elt Ideal) arg3.view.ty) :
    kernelRun.sl.r_30 (F := Ideal) arg3 X_arg3 = arg3.view.read (Elt Ideal) X_arg3 (ix1 0) := by
  sl_unfold_words
  refine congrArg (arg3.view.read (Elt Ideal) X_arg3) ?_
  funext a; apply Fin.ext; fin_cases a; rfl

/-- A rectangle that is the whole buffer moves no index. -/
theorem unit_emb (y : S128x128.Idx) : (Rect.unit (s := S128x128) ![0, 0] S128x128.size inb_S128x128_S128x128_0_0).toLoadRect.idx y = y := by
  funext a; apply Fin.ext; fin_cases a
  · show 0 + 1 * (y 0).val = (y 0).val; omega
  · show 0 + 1 * (y 1).val = (y 1).val; omega

/-- A run of the body stores the block scales of its two planes. -/
theorem run_sb (c : Dev nD) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .i8) (harg6 : arg6.IsWhole) (arg7 : Memref sig .tc .vmem S2048x128 .i8) (harg7 : arg7.IsWhole) (arg8 : Memref sig .tc .vmem S256x1024 .i8) (harg8 : arg8.IsWhole) (arg9 : Memref sig .tc .vmem S256x128 .fp8e4m3) (harg9 : arg9.IsWhole) (arg10 : Memref sig .tc .smem S1 .f32) (harg10 : arg10.IsWhole) (arg11 : Memref sig .tc .vmem S256x2048 .bf16) (harg11 : arg11.IsWhole) (arg12 : Memref sig .tc .vmem S128x128 .f32) (harg12 : arg12.IsWhole) (arg13 : Memref sig .tc .vmem S128x2x128 .bf16) (harg13 : arg13.IsWhole) (arg14 : Memref sig .tc .vmem S64x128 .i32) (harg14 : arg14.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (f8 f9 f10 f11 f12 f13 f14) :
    arg9.view.read (Elt Ideal) (arg9.view.writes (Elt Ideal) f9 ((kernelRun (F := Ideal) c i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7).2.1 f8 f9 f10 f11 f12 f13 f14))
      = sbBlk (arg2.view.read (Elt Ideal) X_arg2) (arg3.view.read (Elt Ideal) X_arg3) (arg4.view.read (Elt Ideal) X_arg4) (arg5.view.read (Elt Ideal) X_arg5) := by
  funext y
  obtain ⟨p, u, rfl⟩ : ∃ (p : Fin 256) (u : Fin 128), y = ix2 p u := ⟨y 0, y 1, eq_ix2 y⟩
  by_cases hp : p.val < 128
  · refine Eq.trans ?_ (show rowScale (kernelRun.sl.r_30 (F := Ideal) arg3 X_arg3) (sgnv (kernelRun.sl.r_15 (F := Ideal) arg2 X_arg2) (kernelRun.sl.r_16 (F := Ideal) arg2 X_arg2) (kernelRun.sl.r_17 (F := Ideal) arg2 X_arg2) (kernelRun.sl.r_18 (F := Ideal) arg2 X_arg2) (kernelRun.sl.r_19 (F := Ideal) arg2 X_arg2) (kernelRun.sl.r_20 (F := Ideal) arg2 X_arg2) (kernelRun.sl.r_21 (F := Ideal) arg2 X_arg2) (kernelRun.sl.r_22 (F := Ideal) arg2 X_arg2) (kernelRun.sl.r_23 (F := Ideal) arg2 X_arg2) (kernelRun.sl.r_24 (F := Ideal) arg2 X_arg2) (kernelRun.sl.r_25 (F := Ideal) arg2 X_arg2) (kernelRun.sl.r_26 (F := Ideal) arg2 X_arg2) (kernelRun.sl.r_27 (F := Ideal) arg2 X_arg2) (kernelRun.sl.r_28 (F := Ideal) arg2 X_arg2) (kernelRun.sl.r_14 (F := Ideal) arg2 X_arg2) (kernelRun.sl.r_29 (F := Ideal) arg2 X_arg2)) (arg4.view.read (Elt Ideal) X_arg4) u.val (⟨p.val, hp⟩ : Fin 128) = sbBlk (arg2.view.read (Elt Ideal) X_arg2) (arg3.view.read (Elt Ideal) X_arg3) (arg4.view.read (Elt Ideal) X_arg4) (arg5.view.read (Elt Ideal) X_arg5) (ix2 p u) from by
      rw [amax_eq, sgn_eq]
      unfold sbBlk
      refine (congr (congrArg (fun Z => rowScale _ _ Z u.val) (if_pos (show ((ix2 p u : S256x128.Idx) 0).val < 128 from hp)).symm) (Fin.ext ?_))
      show p.val = p.val % 128; omega)
    unfold kernelRun
    dsimp only
    delta kernelRun.sl.r_32 kernelRun.sl.v51 kernelRun.sl.v56
    refine (View.read_writes_cons_rows_of_not_mem (W := 128) (o := 128) _ _ _ _ _ (ix2 p u) rfl rfl (Or.inl hp)).trans ?_
    refine (View.read_writes_cons_rows_of_mem (o := 0) _ _ _ _ _ (ix2 p u) (ix2 (⟨p.val, hp⟩ : Fin 128) u) rfl (by show p.val = 0 + p.val; omega) rfl).trans ?_
    unfold_payloads
    pointwise []
    refine (congrArg (arg12.view.read (Elt Ideal) _) (unit_emb _)).trans ?_
    have h := loop_read_t1 Variants.none c none i arg2 harg2 arg3 harg3 arg4 harg4 arg5 harg5 arg6 harg6 arg7 harg7 arg8 harg8 arg9 harg9 arg10 harg10 arg11 harg11 arg12 harg12 arg13 harg13 arg14 harg14 (kernelRun.sl.r_15 arg2 X_arg2) (kernelRun.sl.r_16 arg2 X_arg2) (kernelRun.sl.r_17 arg2 X_arg2) (kernelRun.sl.r_18 arg2 X_arg2) (kernelRun.sl.r_19 arg2 X_arg2) (kernelRun.sl.r_20 arg2 X_arg2) (kernelRun.sl.r_21 arg2 X_arg2) (kernelRun.sl.r_22 arg2 X_arg2) (kernelRun.sl.r_23 arg2 X_arg2) (kernelRun.sl.r_24 arg2 X_arg2) (kernelRun.sl.r_25 arg2 X_arg2) (kernelRun.sl.r_26 arg2 X_arg2) (kernelRun.sl.r_27 arg2 X_arg2) (kernelRun.sl.r_28 arg2 X_arg2) (kernelRun.sl.r_14 arg2 X_arg2) (kernelRun.sl.r_29 arg2 X_arg2) (kernelRun.sl.r_30 arg3 X_arg3) X_arg4 X_arg6 f8 f11 f12 f13 f14 f12 [] u (⟨p.val, hp⟩ : Fin 128) (Scf.trips (0#32) (Scalar.addi 0#32 8#32) 1#32) (by decide) (lt_of_lt_of_le u.isLt (by decide))
    rw [List.append_nil] at h
    exact h
  · refine Eq.trans ?_ (show rowScale (kernelRun.sl.r_30 (F := Ideal) arg3 X_arg3) (sgnv (kernelRun.sl.r_15 (F := Ideal) arg2 X_arg2) (kernelRun.sl.r_16 (F := Ideal) arg2 X_arg2) (kernelRun.sl.r_17 (F := Ideal) arg2 X_arg2) (kernelRun.sl.r_18 (F := Ideal) arg2 X_arg2) (kernelRun.sl.r_19 (F := Ideal) arg2 X_arg2) (kernelRun.sl.r_20 (F := Ideal) arg2 X_arg2) (kernelRun.sl.r_21 (F := Ideal) arg2 X_arg2) (kernelRun.sl.r_22 (F := Ideal) arg2 X_arg2) (kernelRun.sl.r_23 (F := Ideal) arg2 X_arg2) (kernelRun.sl.r_24 (F := Ideal) arg2 X_arg2) (kernelRun.sl.r_25 (F := Ideal) arg2 X_arg2) (kernelRun.sl.r_26 (F := Ideal) arg2 X_arg2) (kernelRun.sl.r_27 (F := Ideal) arg2 X_arg2) (kernelRun.sl.r_28 (F := Ideal) arg2 X_arg2) (kernelRun.sl.r_14 (F := Ideal) arg2 X_arg2) (kernelRun.sl.r_29 (F := Ideal) arg2 X_arg2)) (arg5.view.read (Elt Ideal) X_arg5) u.val (⟨p.val - 128, by omega⟩ : Fin 128) = sbBlk (arg2.view.read (Elt Ideal) X_arg2) (arg3.view.read (Elt Ideal) X_arg3) (arg4.view.read (Elt Ideal) X_arg4) (arg5.view.read (Elt Ideal) X_arg5) (ix2 p u) from by
      rw [amax_eq, sgn_eq]
      unfold sbBlk
      refine (congr (congrArg (fun Z => rowScale _ _ Z u.val) (if_neg (show ¬ ((ix2 p u : S256x128.Idx) 0).val < 128 from hp)).symm) (Fin.ext ?_))
      show p.val - 128 = p.val % 128; omega)
    unfold kernelRun
    dsimp only
    delta kernelRun.sl.r_32 kernelRun.sl.v51 kernelRun.sl.v56
    refine (View.read_writes_cons_rows_of_mem (o := 128) _ _ _ _ _ (ix2 p u) (ix2 (⟨p.val - 128, by omega⟩ : Fin 128) u) rfl (by show p.val = 128 + (p.val - 128); omega) rfl).trans ?_
    unfold_payloads
    pointwise []
    refine (congrArg (arg12.view.read (Elt Ideal) _) (unit_emb _)).trans ?_
    exact (loop_read_t2 Variants.none c none i arg2 harg2 arg3 harg3 arg4 harg4 arg5 harg5 arg6 harg6 arg7 harg7 arg8 harg8 arg9 harg9 arg10 harg10 arg11 harg11 arg12 harg12 arg13 harg13 arg14 harg14 (kernelRun.sl.r_15 arg2 X_arg2) (kernelRun.sl.r_16 arg2 X_arg2) (kernelRun.sl.r_17 arg2 X_arg2) (kernelRun.sl.r_18 arg2 X_arg2) (kernelRun.sl.r_19 arg2 X_arg2) (kernelRun.sl.r_20 arg2 X_arg2) (kernelRun.sl.r_21 arg2 X_arg2) (kernelRun.sl.r_22 arg2 X_arg2) (kernelRun.sl.r_23 arg2 X_arg2) (kernelRun.sl.r_24 arg2 X_arg2) (kernelRun.sl.r_25 arg2 X_arg2) (kernelRun.sl.r_26 arg2 X_arg2) (kernelRun.sl.r_27 arg2 X_arg2) (kernelRun.sl.r_28 arg2 X_arg2) (kernelRun.sl.r_14 arg2 X_arg2) (kernelRun.sl.r_29 arg2 X_arg2) (kernelRun.sl.r_30 arg3 X_arg3) X_arg5 X_arg7 _ _ _ _ _ f12 _ u (⟨p.val - 128, by omega⟩ : Fin 128) (Scf.trips (0#32) (Scalar.addi 0#32 8#32) 1#32) (by decide) (lt_of_lt_of_le u.isLt (by decide)))

/-- A run of the body stores the scale of the tensor. -/
theorem run_st (c : Dev nD) (i : grid0.Coords) (arg2 : Memref sig .tc .smem S16 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .i8) (harg6 : arg6.IsWhole) (arg7 : Memref sig .tc .vmem S2048x128 .i8) (harg7 : arg7.IsWhole) (arg8 : Memref sig .tc .vmem S256x1024 .i8) (harg8 : arg8.IsWhole) (arg9 : Memref sig .tc .vmem S256x128 .fp8e4m3) (harg9 : arg9.IsWhole) (arg10 : Memref sig .tc .smem S1 .f32) (harg10 : arg10.IsWhole) (arg11 : Memref sig .tc .vmem S256x2048 .bf16) (harg11 : arg11.IsWhole) (arg12 : Memref sig .tc .vmem S128x128 .f32) (harg12 : arg12.IsWhole) (arg13 : Memref sig .tc .vmem S128x2x128 .bf16) (harg13 : arg13.IsWhole) (arg14 : Memref sig .tc .vmem S64x128 .i32) (harg14 : arg14.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (f8 f9 f10 f11 f12 f13 f14) :
    arg10.view.read (Elt Ideal) ((kernelRun (F := Ideal) c i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7).2.2.1 f8 f9 f10 f11 f12 f13 f14)
      = stBlk (arg3.view.read (Elt Ideal) X_arg3) := by
  funext y
  obtain ⟨p, rfl⟩ : ∃ p : Fin 1, y = ix1 p := ⟨y 0, eq_ix1 y⟩
  obtain rfl : p = 0 := Subsingleton.elim _ _
  unfold kernelRun
  dsimp only
  sl_unfold_words
  refine (View.read_writes_cons_unit_of_mem _ _ _ _ _ (ix1 0) (ix1 0) rfl (by intro a; fin_cases a; rfl)).trans ?_
  unfold_payloads
  unfold stBlk
  pointwise []
  refine congrArg tscale (congrArg (arg3.view.read (Elt Ideal) X_arg3) ?_)
  funext a; apply Fin.ext; fin_cases a; rfl

end Cert.DyIdeal.Body
-- ==== Proof.DyIdealFrame.lean ====
/-
  Hand-written, untrusted. The frame of `DyIdeal` together with what its call leaves in the block scales and in the second-level scale: the
  codes and the dequantised copy are forgotten, the two scales are named exactly.
-/
module

public import proofs.«01_k».proof.Proof.Gen.DyIdeal.Frame
public import proofs.«01_k».proof.Proof.DyIdealRun
public import proofs.«01_k».proof.Proof.DyLoops
public import Idealize.ShloMosaic.Lib.Pipeline.Frame
public import Idealize.ShloMosaic.Lib.Pipeline.FrameBody
public import Idealize.ShloMosaic.Lib.Tactic

@[expose] public section

set_option maxRecDepth 16384

noncomputable section

namespace Cert.DyIdeal.Body

open Cert.DyIdeal Cert.DyIdeal.Gen
open Idealize.ShloMosaic Idealize.ShloMosaic.TcCoe Idealize.ShloMosaic.Tactic
open Cert.QuantIdeal.Body (sbBlk stBlk)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The results nothing is said of. -/
def forgets0 : Fin 10 → Bool := fun w => w.val = 6 ∨ w.val = 9

/-- The proof data on core `c`: each array as launched; an input's staging buffer left holding its block; the block scales
    and the second-level scale named, the other two results unnamed; the scratch at anything; an array that several inputs read held in shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, _⟩ => sbBlk (iblk m c 0 t) (iblk m c 1 t) (iblk m c 2 t) (iblk m c 3 t)
    | ⟨8, _⟩ => stBlk (iblk m c 1 t)
    | ⟨9, h⟩ => Pipeline.Dat.unnamed (cfg := cfg0) ⟨9, h⟩ t
  Φ _ := Pipeline.ΦA spec0 c
  q w := Pipeline.shareOf spec0 w
  owed _ := 0

/-- Every window begins with its array as launched. -/
theorem A_eq (c : Dev nD) (w : Fin cfg0.W) : (dats m 0 c).A w = V m c (Pipeline.arrRef spec0 w) := by dsimp only [dats]
/-- What the body leaves in the staging buffer of window 0. -/
theorem after0_0 (c : Dev nD) (t : Fin cfg0.N) : (dats m 0 c).after 0 t = iblk m c 0 t := by dsimp only [dats]
/-- What the body leaves in the staging buffer of window 1. -/
theorem after0_1 (c : Dev nD) (t : Fin cfg0.N) : (dats m 0 c).after 1 t = iblk m c 1 t := by dsimp only [dats]
/-- What the body leaves in the staging buffer of window 2. -/
theorem after0_2 (c : Dev nD) (t : Fin cfg0.N) : (dats m 0 c).after 2 t = iblk m c 2 t := by dsimp only [dats]
/-- What the body leaves in the staging buffer of window 3. -/
theorem after0_3 (c : Dev nD) (t : Fin cfg0.N) : (dats m 0 c).after 3 t = iblk m c 3 t := by dsimp only [dats]
/-- What the body leaves in the staging buffer of window 4. -/
theorem after0_4 (c : Dev nD) (t : Fin cfg0.N) : (dats m 0 c).after 4 t = iblk m c 4 t := by dsimp only [dats]
/-- What the body leaves in the staging buffer of window 5. -/
theorem after0_5 (c : Dev nD) (t : Fin cfg0.N) : (dats m 0 c).after 5 t = iblk m c 5 t := by dsimp only [dats]
/-- What the body leaves in the staging buffer of window 7. -/
theorem after0_7 (c : Dev nD) (t : Fin cfg0.N) : (dats m 0 c).after 7 t = sbBlk (iblk m c 0 t) (iblk m c 1 t) (iblk m c 2 t) (iblk m c 3 t) := by dsimp only [dats]
/-- What the body leaves in the staging buffer of window 8. -/
theorem after0_8 (c : Dev nD) (t : Fin cfg0.N) : (dats m 0 c).after 8 t = stBlk (iblk m c 1 t) := by dsimp only [dats]
/-- The body finds in the staging buffer of window 0 its block. -/
theorem before0_0 (c : Dev nD) (t : Fin cfg0.N) (d) : (dats m 0 c).before 0 t d = iblk m c 0 t :=
  before0_0_of m (dats m 0 c) (A_eq m c 0) (after0_0 m c) t d
/-- The body finds in the staging buffer of window 1 its block. -/
theorem before0_1 (c : Dev nD) (t : Fin cfg0.N) (d) : (dats m 0 c).before 1 t d = iblk m c 1 t :=
  before0_1_of m (dats m 0 c) (A_eq m c 1) (after0_1 m c) t d
/-- The body finds in the staging buffer of window 2 its block. -/
theorem before0_2 (c : Dev nD) (t : Fin cfg0.N) (d) : (dats m 0 c).before 2 t d = iblk m c 2 t :=
  before0_2_of m (dats m 0 c) (A_eq m c 2) (after0_2 m c) t d
/-- The body finds in the staging buffer of window 3 its block. -/
theorem before0_3 (c : Dev nD) (t : Fin cfg0.N) (d) : (dats m 0 c).before 3 t d = iblk m c 3 t :=
  before0_3_of m (dats m 0 c) (A_eq m c 3) (after0_3 m c) t d
/-- The body finds in the staging buffer of window 4 its block. -/
theorem before0_4 (c : Dev nD) (t : Fin cfg0.N) (d) : (dats m 0 c).before 4 t d = iblk m c 4 t :=
  before0_4_of m (dats m 0 c) (A_eq m c 4) (after0_4 m c) t d
/-- The body finds in the staging buffer of window 5 its block. -/
theorem before0_5 (c : Dev nD) (t : Fin cfg0.N) (d) : (dats m 0 c).before 5 t d = iblk m c 5 t :=
  before0_5_of m (dats m 0 c) (A_eq m c 5) (after0_5 m c) t d

/-- What the body may use besides its windows: the three scratch buffers at some contents, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d))

set_option maxHeartbeats 2000000 in
/-- The body at any point: the inputs' staging buffers hold their blocks, the run applies, and the core owes nothing. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl, after0_0, after0_1, after0_2, after0_3, after0_4, after0_5, after0_7, after0_8]
  generalize iblk m c 0 t = x0
  generalize iblk m c 1 t = x1
  generalize iblk m c 2 t = x2
  generalize iblk m c 3 t = x3
  generalize iblk m c 4 t = x4
  generalize iblk m c 5 t = x5
  unfold owns
  iintro ⟨⟨⟨⟨%ds0, %g0, -, S0⟩, ⟨%ds1, %g1, -, S1⟩, ⟨%ds2, %g2, -, S2⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩, ⟨%d7, %f7, -, H7⟩, ⟨%d8, %f8, -, H8⟩, ⟨%d9, %f9, -, H9⟩⟩
  subst e0 e1 e2 e3 e4 e5
  iapply wp_wand $$ [H0 H1 H2 H3 H4 H5 H6 H7 H8 H9 S0 S1 S2]
  · iapply ((kernelRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) f0 f1 f2 f3 f4 f5).2.2.2.2.2.2.2 Set.univ f6 f7 f8 f9 g0 g1 g2)
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    iexact S2
  unfold Held
  iintro %_ ⟨H0, H1, H2, H3, H4, H5, H6, H7, H8, H9, S0, S1, S2⟩
  isplitl [S0 S1 S2 Hr]
  · isplitl [S0 S1 S2]
    · isplitl [S0]
      · iexists _, _; isplitr; swap; · iexact S0
        ipureintro; rfl
      isplitl [S1]
      · iexists _, _; isplitr; swap; · iexact S1
        ipureintro; rfl
      iexists _, _; isplitr; swap; · iexact S2
      ipureintro; rfl
    iexact Hr
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _, _; isplitr; swap; · iexact H6
    ipureintro; rfl
  isplitl [H7]
  · iexists _; isplitr; swap; · iexact H7
    ipureintro; exact run_sb c _ _ _ _ _ _ _ _ _ _ _ _ _ _ _ _ _ _ _ _ _ _ _ _ _ _ _ _ _ _ _ _ _ _ _ _ _ _ _ _
  isplitl [H8]
  · iexists _; isplitr; swap; · iexact H8
    ipureintro; exact run_st c _ _ _ _ _ _ _ _ _ _ _ _ _ _ _ _ _ _ _ _ _ _ _ _ _ _ _ _ _ _ _ _ _ _ _ _ _ _ _ _
  iexists _, _; isplitr; swap; · iexact H9
  ipureintro; rfl

/-- The body of the pipeline at a grid point, with its arguments. -/
theorem defs₀_row (t : Fin cfg0.N) : defs₀ (F := Ideal) .tc cfg0.body (cfg0.bodyArgs t (cfg0.slots t)) = bodyAt0 t := by
  unfold defs₀; rw [Defs.onTc_tc]

/-- The library's body obligation, the forgotten results at anything. -/
theorem body_obligation (c : Dev nD) :
    BodyObligation (dats m 0 c) (defs₀ (F := Ideal)) Variants.none () Set.univ forgets0 := fun t => by
  rw [bigSep_W0, bigSep_W0, defs₀_row]
  exact triple_restated (sound_body m c t) rfl .rfl fun _ => .rfl

set_option backward.isDefEq.respectTransparency.types false in
/-- The launch: every weakly fair execution terminates, with the arrays as the proof data has them and every semaphore at zero. -/
theorem run_main :
    θ_run defs (onTc (τ := τ) (main (F := Ideal))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m ρ}

/-- An argument array after the run is the argument array at launch. -/
theorem final_args {r : PUnit × MemSt nD τ sig (Elt Ideal)}
    (h : Pipeline.RDat.FramePost (cfgs 0) (fun c => (dats m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h c 3 rfl).trans (V_main_arg0 m c),
   (Pipeline.RDat.FramePost.arr_in h c 5 rfl).trans (V_main_arg1 m c),
   (Pipeline.RDat.FramePost.arr_in h c 0 rfl).trans (V_main_arg2 m c),
   (Pipeline.RDat.FramePost.arr_in h c 1 rfl).trans (V_main_arg3 m c)⟩

variable (m ρ)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => final_args h.1 c, h.2⟩) (run_main m ρ)

end Cert.DyIdeal.Body

end
-- ==== Proof.DyFinal.lean ====
/-
  Hand-written, untrusted. What the quantiser of the incoming gradient leaves in its arrays of scales, over the extended reals, as functions of
  its argument arrays.
-/
module

public import proofs.«01_k».proof.Proof.DyIdealFrame
public import proofs.«01_k».proof.Proof.QuantFinal
public import Idealize.ShloMosaic.Lib.Pipeline.ValueKit

@[expose] public section

set_option maxRecDepth 16384

noncomputable section

namespace Cert.DyIdeal.Body

open Cert.DyIdeal Cert.DyIdeal.Gen
open Idealize.ShloMosaic Idealize.ShloMosaic.TcCoe Idealize.SL.Sem
open Idealize.ShloMosaic.Pipeline (Dat)
open Cert.QuantIdeal.Body (gscale tscale quarter rowScale sbBlk stBlk rowScale_eq)

/-- The array of block scales: at channel `i 0` and group `i 1`, the scale of that group's sixteen tokens in that channel. -/
def dySbOf (S : FVec Ideal S16 .f32) (A : FVec Ideal S1 .f32) (X : FVec Ideal S10240x16384 .bf16) : FVec Ideal S16384x640 .fp8e4m3 :=
  fun i => gscale (A (ix1 0)) fun j => X (ix2 (Fin.ofNat 10240 (16 * (i 1).val + j.val)) (i 0)) * quarter S j

variable (m : (ℓ : Loc nD τ sig) → Buf (Elt Ideal) ℓ) (ρ : Dev nD → PrngReg)

/-- Where the blocks of the gradients and of the block scales begin at grid point `t`. -/
theorem idx_facts : ∀ t : Fin cfg0.N, win0_2.index t 0 * win0_2.size 0 = t.val / 64 * 2048 ∧ win0_2.index t 1 * win0_2.size 1 = t.val % 64 * 256
    ∧ win0_3.index t 0 * win0_3.size 0 = t.val / 64 * 2048 ∧ win0_3.index t 1 * win0_3.size 1 = t.val % 64 * 256 + 128
    ∧ win0_7.index t 0 * win0_7.size 0 = t.val % 64 * 256 ∧ win0_7.index t 1 * win0_7.size 1 = t.val / 64 * 128 :=
  (by decide +kernel : ∀ t : Fin grid0.N, _)

/-- The signs are staged whole. -/
theorem iblk0_eq (c : Dev nD) (t : Fin cfg0.N) (j : Fin 16) : iblk m c 0 t (ix1 j) = m ((c : Thread nD τ).loc main_arg2) (ix1 j) := by
  refine congrArg (m ((c : Thread nD τ).loc main_arg2)) ?_
  funext a; apply Fin.ext
  match a with
  | ⟨0, _⟩ => show 0 * 16 + 1 * j.val = j.val
              omega

/-- The tensor's largest magnitude is staged whole. -/
theorem iblk1_eq (c : Dev nD) (t : Fin cfg0.N) : iblk m c 1 t (ix1 0) = m ((c : Thread nD τ).loc main_arg3) (ix1 0) := by
  refine congrArg (m ((c : Thread nD τ).loc main_arg3)) ?_
  funext a; apply Fin.ext
  match a with
  | ⟨0, _⟩ => rfl

/-- The first plane of gradients at grid point `t`. -/
theorem iblk2_eq (c : Dev nD) (t : Fin cfg0.N) (r : Fin 2048) (l : Fin 128) (R : Fin 10240) (L : Fin 16384)
    (hR : R.val = t.val / 64 * 2048 + r.val) (hL : L.val = t.val % 64 * 256 + l.val) :
    iblk m c 2 t (ix2 r l) = m ((c : Thread nD τ).loc main_arg0) (ix2 R L) := by
  obtain ⟨e0, e1, -, -, -, -⟩ := idx_facts t
  refine congrArg (m ((c : Thread nD τ).loc main_arg0)) ?_
  funext a; apply Fin.ext
  match a with
  | ⟨0, _⟩ => show win0_2.index t 0 * win0_2.size 0 + 1 * r.val = R.val
              rw [e0, hR, Nat.one_mul]
  | ⟨1, _⟩ => show win0_2.index t 1 * win0_2.size 1 + 1 * l.val = L.val
              rw [e1, hL, Nat.one_mul]

/-- The second plane of gradients at grid point `t`. -/
theorem iblk3_eq (c : Dev nD) (t : Fin cfg0.N) (r : Fin 2048) (l : Fin 128) (R : Fin 10240) (L : Fin 16384)
    (hR : R.val = t.val / 64 * 2048 + r.val) (hL : L.val = t.val % 64 * 256 + 128 + l.val) :
    iblk m c 3 t (ix2 r l) = m ((c : Thread nD τ).loc main_arg0) (ix2 R L) := by
  obtain ⟨-, -, e0, e1, -, -⟩ := idx_facts t
  refine congrArg (m ((c : Thread nD τ).loc main_arg0)) ?_
  funext a; apply Fin.ext
  match a with
  | ⟨0, _⟩ => show win0_3.index t 0 * win0_3.size 0 + 1 * r.val = R.val
              rw [e0, hR, Nat.one_mul]
  | ⟨1, _⟩ => show win0_3.index t 1 * win0_3.size 1 + 1 * l.val = L.val
              rw [e1, hL, Nat.one_mul]

/-- The block of scales that grid point `t` stores, at a row and a column. -/
theorem sbBlk_eq (c : Dev nD) (t : Fin cfg0.N) (p : Fin 256) (u : Fin 128) (P : Fin 16384) (U : Fin 640)
    (hP : P.val = t.val % 64 * 256 + p.val) (hU : U.val = t.val / 64 * 128 + u.val) :
    sbBlk (iblk m c 0 t) (iblk m c 1 t) (iblk m c 2 t) (iblk m c 3 t) (ix2 p u)
      = dySbOf (m ((c : Thread nD τ).loc main_arg2)) (m ((c : Thread nD τ).loc main_arg3)) (m ((c : Thread nD τ).loc main_arg0)) (ix2 P U) := by
  have ht : t.val < 320 := lt_of_lt_of_eq t.isLt N_0
  have hp := p.isLt
  have hu := u.isLt
  refine (rowScale_eq _ _ _ u.val u.isLt _).trans ?_
  unfold dySbOf
  rw [iblk1_eq]
  congr 1
  funext j
  have hj := j.isLt
  refine congrArg₂ (fun x y : EReal => x * y) ?_ (congrArg (fun x : EReal => x * _) (iblk0_eq m c t j))
  by_cases h : p.val < 128
  · rw [show (if ((ix2 p u : (⟨2, ![256, 128]⟩ : Shape).Idx) 0).val < 128 then iblk m c 2 t else iblk m c 3 t) = iblk m c 2 t from if_pos h]
    refine iblk2_eq m c t _ _ _ _ ?_ ?_
    · show (16 * U.val + j.val) % 10240 = t.val / 64 * 2048 + (16 * u.val + j.val) % 2048
      omega
    · show P.val = t.val % 64 * 256 + p.val % 128
      omega
  · rw [show (if ((ix2 p u : (⟨2, ![256, 128]⟩ : Shape).Idx) 0).val < 128 then iblk m c 2 t else iblk m c 3 t) = iblk m c 3 t from if_neg h]
    refine iblk3_eq m c t _ _ _ _ ?_ ?_
    · show (16 * U.val + j.val) % 10240 = t.val / 64 * 2048 + (16 * u.val + j.val) % 2048
      omega
    · show P.val = t.val % 64 * 256 + 128 + p.val % 128
      omega

/-- After the run the array of block scales. -/
theorem final_sb (c : Dev nD) : (dats m 0 c).arrAt 7 cfg0.N
    = dySbOf (m ((c : Thread nD τ).loc main_arg2)) (m ((c : Thread nD τ).loc main_arg3)) (m ((c : Thread nD τ).loc main_arg0)) := by
  refine (dats m 0 c).arrAt_eq_of_covers 7 _ (by decide +kernel) fun t hf y => ?_
  obtain ⟨-, -, -, -, e0, e1⟩ := idx_facts t
  have ht : t.val < 320 := lt_of_lt_of_eq t.isLt N_0
  obtain ⟨p, u, rfl⟩ : ∃ (p : Fin 256) (u : Fin 128), y = ix2 p u := ⟨y 0, y 1, eq_ix2 y⟩
  have hp := p.isLt
  have hu := u.isLt
  have er : ((cfg0.win 7).blk t).view.emb (ix2 p u)
      = ix2 (⟨t.val % 64 * 256 + p.val, by omega⟩ : Fin 16384) (⟨t.val / 64 * 128 + u.val, by omega⟩ : Fin 640) := by
    funext a; apply Fin.ext
    match a with
    | ⟨0, _⟩ => show win0_7.index t 0 * win0_7.size 0 + 1 * p.val = t.val % 64 * 256 + p.val
                rw [e0, Nat.one_mul]
    | ⟨1, _⟩ => show win0_7.index t 1 * win0_7.size 1 + 1 * u.val = t.val / 64 * 128 + u.val
                rw [e1, Nat.one_mul]
  refine Eq.trans ?_ (congrArg (dySbOf _ _ _) er).symm
  refine Eq.trans ?_ (sbBlk_eq m c t p u _ _ rfl rfl)
  blk_simp
  refine (congrFun (after0_7 m c t) _).trans ?_
  rfl

/-- After the run the tensor's scale. -/
theorem final_st (c : Dev nD) : (dats m 0 c).arrAt 8 cfg0.N = stBlk (m ((c : Thread nD τ).loc main_arg3)) := by
  refine (dats m 0 c).arrAt_eq_of_after_last 8 (⟨319, by decide⟩ : Fin grid0.N) (by decide +kernel) _ fun j => ?_
  blk_simp
  refine (congrFun (after0_8 m c _) _).trans ?_
  exact congrArg tscale (iblk1_eq m c _)

/-- The launch with the two arrays of scales named. -/
theorem run_scales : θ_run defs (onTc (τ := τ) (main (F := Ideal))) ⟨m, fun _ => 0, ρ⟩ (fun r => ∀ c : Dev nD,
      r.2.mem ((c.tc : Thread nD τ).loc main_v0_1) = dySbOf (m ((c : Thread nD τ).loc main_arg2)) (m ((c : Thread nD τ).loc main_arg3)) (m ((c : Thread nD τ).loc main_arg0))
      ∧ r.2.mem ((c.tc : Thread nD τ).loc main_v0_2) = stBlk (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(((dats m 0 c).toRForget_arrAt_iff (w := 7) (by decide) _ _).mp ((h.1 c).1 7)).trans (final_sb m c),
     (((dats m 0 c).toRForget_arrAt_iff (w := 8) (by decide) _ _).mp ((h.1 c).1 8)).trans (final_st m c),
     final_args h.1 c⟩) (run_main m ρ)

end Cert.DyIdeal.Body

end
-- ==== Proof.DyReference.lean ====
/-
  Hand-written, untrusted. The reference's two arrays of scales as functions of its argument arrays, and that they
  are the arrays the quantiser of the incoming gradient leaves.
-/
module

public import proofs.«01_k».proof.Proof.QuantReference
public import proofs.«01_k».proof.Proof.DyFinal
public import proofs.«01_k».proof.Proof.Gen.DyRefIdeal.Value
public import Idealize.ShloMosaic.Lib.StableHlo.RunRead
public import Idealize.ShloMosaic.Lib.Pointwise
public import Idealize.ShloMosaic.Lib.Pipeline.ValueKit
public import Idealize.ShloMosaic.Lib.Pipeline.ReadBack
@[expose] public section

set_option maxRecDepth 16384

noncomputable section

namespace Cert.DyRefIdeal.Scales

open Cert.DyRefIdeal Cert.DyRefIdeal.Gen
open Idealize.ShloMosaic Idealize.ShloMosaic.TcCoe Idealize.SL.Sem
open Cert.QuantIdeal.Body (sg hs hsum gmax gscale tscale quarter stBlk gmax_eq)
open Cert.DyIdeal.Body (dySbOf)
open Cert.QuantRefIdeal.Scales (stTerm stTerm_eq hTerm rTerm r_apply)

variable (m : (ℓ : Loc nD τ sig) → Buf (Elt Ideal) ℓ)

/-- The region finds the tensor's scale. -/
theorem V_main_v4 (c : Dev nD) : V m c main_v4 = stTerm (m ((c : Thread nD τ).loc main_arg3)) := by
  show StableHlo.after (List.flatten [hostOps0, hostOps0_1, hostOps0_2]) (fun b => m (c, b)) (Proc.devRef .tc main_v4) = _
  simp only [hostOps0, hostOps0_1, hostOps0_2, List.flatten_cons, List.flatten_nil, List.append_nil, List.cons_append, List.nil_append]
  after_results
  rfl

/-- The transformed gradients. -/
def zTerm (S : FVec Ideal S16 .f32) (X : FVec Ideal S10240x16384 .bf16) : FVec Ideal S640x16384x16 .f32 :=
  Host.dotGeneral (F := Ideal) (φ₁ := .f32) (φ₂ := .f32) dot_S640x16x16384_S16x16_S640x16384x16_1_1_02_0_n_n (some .fp32)
    (shapeCast S640x16x16384 (extf (F := Ideal) .f32 X Facts₀.bitsLt_bf16_f32) Facts₀.shapeCasts_S10240x16384_S640x16x16384) (rTerm S)

/-- The largest magnitude of each transformed group. -/
def aTerm (S : FVec Ideal S16 .f32) (X : FVec Ideal S10240x16384 .bf16) : FVec Ideal S16384x640 .f32 :=
  transpose S16384x640 [1, 0] (Host.reduce (FloatOps.maximumf (F := Ideal) (φ := .f32))
    (Host.absf (transpose S640x16x16384 [0, 2, 1] (zTerm S X) Facts₀.transposes_S640x16384x16_S640x16x16384_0_2_1))
    (constant (F := Ideal) S_ .f32 0xFF800000#32) Facts₀.reducesTo_S640x16x16384_S640x16384_d1 Facts₀.h_S_) Facts₀.transposes_S640x16384_S16384x640_1_0

/-- The region finds the largest magnitudes. -/
theorem V_main_v30 (c : Dev nD) : V m c main_v30 = aTerm (m ((c : Thread nD τ).loc main_arg2)) (m ((c : Thread nD τ).loc main_arg0)) := by
  show StableHlo.after (List.flatten [hostOps0, hostOps0_1, hostOps0_2]) (fun b => m (c, b)) (Proc.devRef .tc main_v30) = _
  simp only [hostOps0, hostOps0_1, hostOps0_2, List.flatten_cons, List.flatten_nil, List.append_nil, List.cons_append, List.nil_append]
  after_results
  rfl

/-- One transformed value. -/
theorem z_apply (S : FVec Ideal S16 .f32) (X : FVec Ideal S10240x16384 .bf16) (g : Fin 640) (l : Fin 16384) (i : Fin 16) :
    zTerm S X (ix3 g l i) = hsum (fun j => X (ix2 (Fin.ofNat 10240 (16 * g.val + j.val)) l) * quarter S j)
      (i.val.testBit 0) (i.val.testBit 1) (i.val.testBit 2) (i.val.testBit 3) := by
  have e : ∀ (b : Bool) (x y : EReal), x * sg b y = sg b (x * y) := by
    intro b x y
    cases b
    · rfl
    · exact mul_neg x y
  have hz : zTerm S X (ix3 g l i) = ∑ j : Fin 16, X (ix2 (⟨g.val * 16 + j.val, by omega⟩ : Fin 10240) l) * rTerm S (ix2 i j) := by
    unfold zTerm
    pointwise []
  rw [hz]
  unfold hsum
  refine Finset.sum_congr rfl fun j _ => ?_
  rw [r_apply, e]
  have hx : (⟨g.val * 16 + j.val, by omega⟩ : Fin 10240) = Fin.ofNat 10240 (16 * g.val + j.val) := by
    apply Fin.ext
    show g.val * 16 + j.val = (16 * g.val + j.val) % 10240
    omega
  rw [hx]

/-- The largest magnitude of one transformed group. -/
theorem a_apply (S : FVec Ideal S16 .f32) (X : FVec Ideal S10240x16384 .bf16) (g : Fin 640) (l : Fin 16384) :
    aTerm S X (ix2 l g) = gmax fun j => X (ix2 (Fin.ofNat 10240 (16 * g.val + j.val)) l) * quarter S j := by
  have ha : aTerm S X (ix2 l g) = Finset.fold max (Ideal.ofBits .f32 4286578688#32) (fun i => FloatOps.absf (F := Ideal) (φ := .f32) (zTerm S X (ix3 g l i))) Finset.univ := by
    unfold aTerm
    pointwise []
  have hb : Ideal.ofBits .f32 4286578688#32 = (⊥ : EReal) := by
    simp [Ideal.ofBits, Ideal.ieee]
  rw [ha, hb, gmax_eq]
  simp only [z_apply]
  rfl

/-- One scale, as the reference's gridless call computes it. -/
theorem pay_apply (v : Vec Ideal S16384x640 .f32) (s : EReal) (g : Fin 640) (l : Fin 16384) :
    k0_pay1 (F := Ideal) v s (ix2 l g) = min (Ideal.div (v (ix2 l g)) (Ideal.ofBits .f32 1086324736#32 * s)) (Ideal.ofBits .f32 1138753536#32) := by
  unfold k0_pay1
  pointwise []

/-- The reference's block scales are the kernel's. -/
theorem sb_eq (S : FVec Ideal S16 .f32) (A : FVec Ideal S1 .f32) (X : FVec Ideal S10240x16384 .bf16) :
    k0_pay1 (F := Ideal) (aTerm S X) (stTerm A (ix1 0)) = dySbOf S A X := by
  funext y
  obtain ⟨l, g, rfl⟩ : ∃ (l : Fin 16384) (g : Fin 640), y = ix2 l g := ⟨y 0, y 1, eq_ix2 y⟩
  refine (pay_apply _ _ g l).trans ?_
  rw [a_apply, stTerm_eq]
  rfl

/-- Reading the whole of the first input's array through its one block gives the array. -/
theorem read_blk0 (t : Fin cfg0.N) (X : FVec Ideal S16384x640 .f32) : ((cfg0.win 0).blk t).view.read (Elt Ideal) X = X := by
  funext y
  refine congrArg X ?_
  funext a; apply Fin.ext
  match a with
  | ⟨0, _⟩ => show 0 * 16384 + 1 * (y 0).val = (y 0).val
              omega
  | ⟨1, _⟩ => show 0 * 640 + 1 * (y 1).val = (y 1).val
              omega

/-- Reading the whole of the second input's array through its one block gives the array. -/
theorem read_blk1 (t : Fin cfg0.N) (A : FVec Ideal S1 .f32) : ((cfg0.win 1).blk t).view.read (Elt Ideal) A = A := by
  funext y
  refine congrArg A ?_
  funext a; apply Fin.ext
  match a with
  | ⟨0, _⟩ => show 0 * 1 + 1 * (y 0).val = (y 0).val
              omega

/-- The gridless call's array after the run, from the arrays its region finds. -/
theorem final_sb (c : Dev nD) : (dats m 0 c).arrAt 2 cfg0.N = k0_pay1 (V m c main_v30) (V m c main_v4 (ix1 0)) := by
  have e0 : ∀ t : Fin cfg0.N, iblk m c 0 t = V m c main_v30 := fun t => read_blk0 t (V m c main_v30)
  have e1 : ∀ t : Fin cfg0.N, iblk m c 1 t = V m c main_v4 := fun t => read_blk1 t (V m c main_v4)
  generalize V m c main_v30 = X at e0 ⊢
  generalize V m c main_v4 = A at e1 ⊢
  refine (dats m 0 c).arrAt_eq_of_after_last 2 (⟨0, by decide⟩ : Fin grid0.N) (by decide +kernel) _ fun j => ?_
  blk_simp
  refine (congrFun (after0_2 m c _) _).trans ?_
  unfold outsAt0
  frame_out
  simp only [read_unread_whole]
  refine (congrArg₂ (fun v a => k0_pay1 (F := Ideal) v a _) (e0 _) ((congrFun (e1 _) _).trans (congrArg A ?_))).trans rfl
  funext a; apply Fin.ext
  match a with
  | ⟨0, _⟩ => rfl

/-- The launch with the two arrays of scales named. -/
theorem run_scales (ρ : Dev nD → PrngReg) : θ_run defs (onTc (τ := τ) (main (F := Ideal))) ⟨m, fun _ => 0, ρ⟩ (fun r => ∀ c : Dev nD,
      r.2.mem ((c.tc : Thread nD τ).loc main_v31) = dySbOf (m ((c : Thread nD τ).loc main_arg2)) (m ((c : Thread nD τ).loc main_arg3)) (m ((c : Thread nD τ).loc main_arg0))
      ∧ r.2.mem ((c.tc : Thread nD τ).loc main_v4) = stBlk (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(Value.post2 m r h c).trans ((final_sb m c).trans (by
        rw [V_main_v30, V_main_v4]
        exact sb_eq _ _ _)),
      (((h c).1 1).trans (((dats m 0 c).arrAt_in 1 rfl cfg0.N).trans (A_eq m c 1))).trans ((V_main_v4 m c).trans (stTerm_eq _)),
      Value.kept_main_arg0 m r h c, Value.kept_main_arg1 m r h c, Value.kept_main_arg2 m r h c, Value.kept_main_arg3 m r h c⟩)
    (run_main m ρ)

end Cert.DyRefIdeal.Scales

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Product
public import proofs.«01_k».proof.Proof.Gen.Quant
public import proofs.«01_k».proof.Proof.Gen.Quant.Frame
public import proofs.«01_k».proof.Proof.Gen.QuantIdeal
public import proofs.«01_k».proof.Proof.Gen.QuantIdeal.Frame
public import proofs.«01_k».proof.Proof.Gen.QuantRefIdeal
public import proofs.«01_k».proof.Proof.Gen.QuantRefIdeal.Frame
public import proofs.«01_k».proof.Proof.Gen.QuantRefIdeal.Value
public import proofs.«01_k».proof.Proof.Gen.Dy
public import proofs.«01_k».proof.Proof.Gen.Dy.Frame
public import proofs.«01_k».proof.Proof.Gen.DyIdeal
public import proofs.«01_k».proof.Proof.Gen.DyIdeal.Frame
public import proofs.«01_k».proof.Proof.Gen.DyRefIdeal
public import proofs.«01_k».proof.Proof.Gen.DyRefIdeal.Frame
public import proofs.«01_k».proof.Proof.Gen.DyRefIdeal.Value
public import proofs.«01_k».proof.Proof.Gen.Dy.Skeleton
public import proofs.«01_k».proof.Proof.Gen.Dy.Loops
public import proofs.«01_k».proof.Proof.Gen.DyIdeal.Skeleton
public import proofs.«01_k».proof.Proof.Gen.DyIdeal.Loops
public import proofs.«01_k».proof.Proof.QuantFrame
public import proofs.«01_k».proof.Proof.QuantReference
public import proofs.«01_k».proof.Proof.DyFrame
public import proofs.«01_k».proof.Proof.DyReference
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame, on words. -/
theorem frame_kernel : Cert.quiescent_Kernel := fun m ρ _ => Cert.Kernel.Gen.frame m ρ
/-- The kernel's frame, over the extended reals. -/
theorem frame_kernelIdeal : Cert.quiescent_KernelIdeal := fun m ρ _ => Cert.KernelIdeal.Gen.frame m ρ
/-- The reference's frame: it is host operations alone, without a semaphore. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
/-- The idealization rewrote nothing. -/
theorem preserves : Cert.preserves_Kernel_KernelIdeal := trivial
/-- Over the extended reals the tiled product is the reference's product. -/
theorem algebraic : Cert.algebraic_KernelIdeal_ReferenceIdeal := by
  intro m ρ m' ρ' _ hag
  refine ⟨fun c => Cert.KernelIdeal.Product.G m c, ?_, ?_⟩
  · exact (θ_run Cert.KernelIdeal.defs _ _).mono
      (fun _ h c => ⟨(h c).1.trans (Cert.KernelIdeal.Product.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [(hag c).1, (hag c).2.1, (hag c).2.2.1, (hag c).2.2.2]
    rfl

/-- The quantiser's frame, on words. -/
theorem frame_quant : Cert.quiescent_Quant := fun m ρ _ => Cert.Quant.Body.frame m ρ
/-- The quantiser's frame, over the extended reals. -/
theorem frame_quantIdeal : Cert.quiescent_QuantIdeal := fun m ρ _ => Cert.QuantIdeal.Body.frame m ρ
/-- The frame of the quantiser's reference. -/
theorem frame_quantRefIdeal : Cert.quiescent_QuantRefIdeal := fun m ρ _ => Cert.QuantRefIdeal.Gen.frame m ρ
/-- The idealization read each buffer of word pairs as the two halves it holds. -/
theorem preserves_quant : Cert.preserves_Quant_QuantIdeal :=
  ⟨IdealRules.bf16_pair.bufferStatement _ _, IdealRules.bf16_pair.statement _ _, IdealRules.bf16_pair.statement _ _,
    IdealRules.bf16_pair.statement _ _, IdealRules.bf16_pair.statement _ _, IdealRules.bf16_pair.packStatement _⟩
/-- Over the extended reals the quantiser's two arrays of scales are the reference's. -/
theorem algebraic_quant : Cert.algebraic_QuantIdeal_QuantRefIdeal := by
  intro m ρ m' ρ' _ hag
  refine ⟨_, _, Cert.QuantIdeal.Body.run_scales m ρ, ?_⟩
  refine (θ_run Cert.QuantRefIdeal.defs _ _).mono (fun _ h c => ⟨(h c).1.trans ?_, (h c).2.1.trans ?_, (h c).2.2⟩)
    (Cert.QuantRefIdeal.Scales.run_scales m' ρ')
  · rw [(hag c).1, (hag c).2.1, (hag c).2.2]
  · rw [(hag c).2.2]

/-- The frame of the quantiser of dy, on words. -/
theorem frame_dy : Cert.quiescent_Dy := fun m ρ _ => Cert.Dy.Body.frame m ρ
/-- The frame of the quantiser of dy, over the extended reals. -/
theorem frame_dyIdeal : Cert.quiescent_DyIdeal := fun m ρ _ => Cert.DyIdeal.Body.frame m ρ
/-- The frame of the reference of the quantiser of dy. -/
theorem frame_dyRefIdeal : Cert.quiescent_DyRefIdeal := fun m ρ _ => Cert.DyRefIdeal.Gen.frame m ρ
/-- The idealization read each buffer of word pairs as the two halves it holds. -/
theorem preserves_dy : Cert.preserves_Dy_DyIdeal :=
  ⟨IdealRules.bf16_pair.bufferStatement _ _, IdealRules.bf16_pair.statement _ _, IdealRules.bf16_pair.statement _ _,
    IdealRules.bf16_pair.statement _ _, IdealRules.bf16_pair.statement _ _, IdealRules.bf16_pair.packStatement _⟩
/-- Over the extended reals the two arrays of scales of dy are the reference's. -/
theorem algebraic_dy : Cert.algebraic_DyIdeal_DyRefIdeal := by
  intro m ρ m' ρ' _ hag
  refine ⟨_, _, Cert.DyIdeal.Body.run_scales m ρ, ?_⟩
  refine (θ_run Cert.DyRefIdeal.defs _ _).mono (fun _ h c => ⟨(h c).1.trans ?_, (h c).2.1.trans ?_, (h c).2.2⟩)
    (Cert.DyRefIdeal.Scales.run_scales m' ρ')
  · rw [(hag c).1, (hag c).2.2.1, (hag c).2.2.2]
  · rw [(hag c).2.2.2]

/-- Everything the certificate claims. -/
theorem claim : Cert.Claim := ⟨Cert.Kernel.Gen.facts, Cert.KernelIdeal.Gen.facts, Cert.ReferenceIdeal.Gen.facts,
  Cert.Quant.Gen.facts, Cert.QuantIdeal.Gen.facts, Cert.QuantRefIdeal.Gen.facts,
  Cert.Dy.Gen.facts, Cert.DyIdeal.Gen.facts, Cert.DyRefIdeal.Gen.facts,
  frame_kernel, frame_kernelIdeal, frame_referenceIdeal, frame_quant, frame_quantIdeal, frame_quantRefIdeal,
  frame_dy, frame_dyIdeal, frame_dyRefIdeal,
  preserves, algebraic, preserves_quant, algebraic_quant, preserves_dy, algebraic_dy⟩

end Cert.Proof

end
